-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x32 : Shape := ⟨2, ![128, 32]⟩
abbrev S256x2 : Shape := ⟨2, ![256, 2]⟩
abbrev S2x128x256 : Shape := ⟨3, ![2, 128, 256]⟩
abbrev S_ : Shape := ⟨0, ![]⟩
abbrev S256x1 : Shape := ⟨2, ![256, 1]⟩
abbrev S256 : Shape := ⟨1, ![256]⟩

class Facts : Prop where
  bcast_S_S256x2 : S_.BroadcastsInDim S256x2 (![] : Fin 0 → Fin S256x2.rank)
  slices_S256x2_S256x1_0_0 : S256x2.Slices ![0, 0] S256x1
  shapeCasts_S256x1_S256 : S256x1.ShapeCasts S256
  slices_S256x2_S256x1_0_1 : S256x2.Slices ![0, 1] S256x1
  bcast_S_S256x128 : S_.BroadcastsInDim S256x128 (![] : Fin 0 → Fin S256x128.rank)
  reducesTo_S256x128_S_d0_1 : S256x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  reducesTo_S256x2_S_d0_1 : S256x2.ReducesTo [0, 1] S_
  reducesTo_S256_S_d0 : S256.ReducesTo [0] S_

variable [Facts]

def fn_part1 {F : FTy → Type} [FloatOps F] (main_v4 : IVec S256x2 1) (main_v9 : IVec S256 1) (main_v13 : IVec S_ 1) (main_v17 : IVec S_ 1) : IVec S_ 1 :=
  let main_v18 : IVec S_ 1 := andi main_v13 main_v17
  let main_c_4 : IVec S_ 1 := constantI S_ 1 1#1
  let main_v19 : IVec S_ 1 := (fun x v => Host.reduce IntOp.andi x v reducesTo_S256x2_S_d0_1 h_S_) main_v4 main_c_4
  let main_c_5 : IVec S_ 1 := constantI S_ 1 1#1
  let main_v20 : IVec S_ 1 := (fun x v => Host.reduce IntOp.andi x v reducesTo_S256_S_d0 h_S_) main_v9 main_c_5
  let main_v21 : IVec S_ 1 := andi main_v19 main_v20
  let main_v22 : IVec S_ 1 := andi main_v18 main_v21
  main_v22

def fn {F : FTy → Type} [FloatOps F] (main_arg0 : FVec F S256x128 .bf16) (main_arg1 : FVec F S128x32 .bf16) (main_arg2 : IVec S256x2 32) (main_arg3 : FVec F S2x128x256 .bf16) : IVec S_ 1 :=
  let main_c : IVec S_ 32 := constantI S_ 32 0#32
  let main_v0 : IVec S256x2 32 := broadcastInDim S256x2 ![] bcast_S_S256x2 main_c
  let main_v1 : IVec S256x2 1 := cmpi .sge main_arg2 main_v0
  let main_c_0 : IVec S_ 32 := constantI S_ 32 32#32
  let main_v2 : IVec S256x2 32 := broadcastInDim S256x2 ![] bcast_S_S256x2 main_c_0
  let main_v3 : IVec S256x2 1 := cmpi .slt main_arg2 main_v2
  let main_v4 : IVec S256x2 1 := andi main_v1 main_v3
  let main_v5 : IVec S256x1 32 := (extractStridedSlice S256x1 ![0, 0] · slices_S256x2_S256x1_0_0) main_arg2
  let main_v6 : IVec S256 32 := shapeCast S256 main_v5 shapeCasts_S256x1_S256
  let main_v7 : IVec S256x1 32 := (extractStridedSlice S256x1 ![0, 1] · slices_S256x2_S256x1_0_1) main_arg2
  let main_v8 : IVec S256 32 := shapeCast S256 main_v7 shapeCasts_S256x1_S256
  let main_v9 : IVec S256 1 := cmpi .ne main_v6 main_v8
  let main_v10 : FVec F S256x128 .bf16 := Host.absf main_arg0
  let main_cst : FVec F S_ .bf16 := constant S_ .bf16 0x7F80#16
  let main_v11 : FVec F S256x128 .bf16 := broadcastInDim S256x128 ![] bcast_S_S256x128 main_cst
  let main_v12 : IVec S256x128 1 := cmpf .olt main_v10 main_v11
  let main_c_1 : IVec S_ 1 := constantI S_ 1 1#1
  let main_v13 : IVec S_ 1 := (fun x v => Host.reduce IntOp.andi x v reducesTo_S256x128_S_d0_1 h_S_) main_v12 main_c_1
  let main_v14 : FVec F S128x32 .bf16 := Host.absf main_arg1
  let main_cst_2 : FVec F S_ .bf16 := constant S_ .bf16 0x7F80#16
  let main_v15 : FVec F S128x32 .bf16 := broadcastInDim S128x32 ![] bcast_S_S128x32 main_cst_2
  let main_v16 : IVec S128x32 1 := cmpf .olt main_v14 main_v15
  let main_c_3 : IVec S_ 1 := constantI S_ 1 1#1
  let main_v17 : IVec S_ 1 := (fun x v => Host.reduce IntOp.andi x v reducesTo_S128x32_S_d0_1 h_S_) main_v16 main_c_3
  fn_part1 (F := F) main_v4 main_v9 main_v13 main_v17
-- ==== Pre_routed_ReferenceIdeal.lean ====
abbrev S256x128 : Shape := ⟨2, ![256, 128]⟩
abbrev S128x32 : Shape := ⟨2, ![128, 32]⟩
abbrev S256x2 : Shape := ⟨2, ![256, 2]⟩
abbrev S32x128x256 : Shape := ⟨3, ![32, 128, 256]⟩
abbrev S_ : Shape := ⟨0, ![]⟩
abbrev S256x1 : Shape := ⟨2, ![256, 1]⟩
abbrev S256 : Shape := ⟨1, ![256]⟩

class Facts : Prop where
  bcast_S_S256x2 : S_.BroadcastsInDim S256x2 (![] : Fin 0 → Fin S256x2.rank)
  slices_S256x2_S256x1_0_0 : S256x2.Slices ![0, 0] S256x1
  shapeCasts_S256x1_S256 : S256x1.ShapeCasts S256
  slices_S256x2_S256x1_0_1 : S256x2.Slices ![0, 1] S256x1
  bcast_S_S256x128 : S_.BroadcastsInDim S256x128 (![] : Fin 0 → Fin S256x128.rank)
  reducesTo_S256x128_S_d0_1 : S256x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  reducesTo_S256x2_S_d0_1 : S256x2.ReducesTo [0, 1] S_
  reducesTo_S256_S_d0 : S256.ReducesTo [0] S_

variable [Facts]

def fn_part1 {F : FTy → Type} [FloatOps F] (main_v4 : IVec S256x2 1) (main_v9 : IVec S256 1) (main_v13 : IVec S_ 1) (main_v17 : IVec S_ 1) : IVec S_ 1 :=
  let main_v18 : IVec S_ 1 := andi main_v13 main_v17
  let main_c_4 : IVec S_ 1 := constantI S_ 1 1#1
  let main_v19 : IVec S_ 1 := (fun x v => Host.reduce IntOp.andi x v reducesTo_S256x2_S_d0_1 h_S_) main_v4 main_c_4
  let main_c_5 : IVec S_ 1 := constantI S_ 1 1#1
  let main_v20 : IVec S_ 1 := (fun x v => Host.reduce IntOp.andi x v reducesTo_S256_S_d0 h_S_) main_v9 main_c_5
  let main_v21 : IVec S_ 1 := andi main_v19 main_v20
  let main_v22 : IVec S_ 1 := andi main_v18 main_v21
  main_v22

def fn {F : FTy → Type} [FloatOps F] (main_arg0 : FVec F S256x128 .bf16) (main_arg1 : FVec F S128x32 .bf16) (main_arg2 : IVec S256x2 32) (main_arg3 : FVec F S32x128x256 .bf16) : IVec S_ 1 :=
  let main_c : IVec S_ 32 := constantI S_ 32 0#32
  let main_v0 : IVec S256x2 32 := broadcastInDim S256x2 ![] bcast_S_S256x2 main_c
  let main_v1 : IVec S256x2 1 := cmpi .sge main_arg2 main_v0
  let main_c_0 : IVec S_ 32 := constantI S_ 32 32#32
  let main_v2 : IVec S256x2 32 := broadcastInDim S256x2 ![] bcast_S_S256x2 main_c_0
  let main_v3 : IVec S256x2 1 := cmpi .slt main_arg2 main_v2
  let main_v4 : IVec S256x2 1 := andi main_v1 main_v3
  let main_v5 : IVec S256x1 32 := (extractStridedSlice S256x1 ![0, 0] · slices_S256x2_S256x1_0_0) main_arg2
  let main_v6 : IVec S256 32 := shapeCast S256 main_v5 shapeCasts_S256x1_S256
  let main_v7 : IVec S256x1 32 := (extractStridedSlice S256x1 ![0, 1] · slices_S256x2_S256x1_0_1) main_arg2
  let main_v8 : IVec S256 32 := shapeCast S256 main_v7 shapeCasts_S256x1_S256
  let main_v9 : IVec S256 1 := cmpi .ne main_v6 main_v8
  let main_v10 : FVec F S256x128 .bf16 := Host.absf main_arg0
  let main_cst : FVec F S_ .bf16 := constant S_ .bf16 0x7F80#16
  let main_v11 : FVec F S256x128 .bf16 := broadcastInDim S256x128 ![] bcast_S_S256x128 main_cst
  let main_v12 : IVec S256x128 1 := cmpf .olt main_v10 main_v11
  let main_c_1 : IVec S_ 1 := constantI S_ 1 1#1
  let main_v13 : IVec S_ 1 := (fun x v => Host.reduce IntOp.andi x v reducesTo_S256x128_S_d0_1 h_S_) main_v12 main_c_1
  let main_v14 : FVec F S128x32 .bf16 := Host.absf main_arg1
  let main_cst_2 : FVec F S_ .bf16 := constant S_ .bf16 0x7F80#16
  let main_v15 : FVec F S128x32 .bf16 := broadcastInDim S128x32 ![] bcast_S_S128x32 main_cst_2
  let main_v16 : IVec S128x32 1 := cmpf .olt main_v14 main_v15
  let main_c_3 : IVec S_ 1 := constantI S_ 1 1#1
  let main_v17 : IVec S_ 1 := (fun x v => Host.reduce IntOp.andi x v reducesTo_S128x32_S_d0_1 h_S_) main_v16 main_c_3
  fn_part1 (F := F) main_v4 main_v9 main_v13 main_v17
-- ==== Kernel.lean ====
abbrev S256x128 : Shape := ⟨2, ![256, 128]⟩
abbrev S128x32 : Shape := ⟨2, ![128, 32]⟩
abbrev S256x2 : Shape := ⟨2, ![256, 2]⟩
abbrev S2x128x256 : Shape := ⟨3, ![2, 128, 256]⟩
abbrev S256x256 : Shape := ⟨2, ![256, 256]⟩
abbrev S4x2x64x256 : Shape := ⟨4, ![4, 2, 64, 256]⟩
abbrev S4x2x3x64x256 : Shape := ⟨5, ![4, 2, 3, 64, 256]⟩
abbrev S4x2x3 : Shape := ⟨3, ![4, 2, 3]⟩
abbrev S_ : Shape := ⟨0, ![]⟩
abbrev S256x32 : Shape := ⟨2, ![256, 32]⟩
abbrev S256x1 : Shape := ⟨2, ![256, 1]⟩
abbrev S256 : Shape := ⟨1, ![256]⟩
abbrev S1x128x256 : Shape := ⟨3, ![1, 128, 256]⟩
abbrev S128x256 : Shape := ⟨2, ![128, 256]⟩
abbrev S64x256 : Shape := ⟨2, ![64, 256]⟩
abbrev S64x128 : Shape := ⟨2, ![64, 128]⟩
abbrev S64x1 : Shape := ⟨2, ![64, 1]⟩
abbrev S1x1x64x256 : Shape := ⟨4, ![1, 1, 64, 256]⟩
abbrev S1x1x1 : Shape := ⟨3, ![1, 1, 1]⟩
abbrev S1x1x1x64x256 : Shape := ⟨5, ![1, 1, 1, 64, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x2, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S128x32, .bf16⟩
  | .local _ .vmem, ⟨2, _⟩ => ⟨S256x2, .i32⟩
  | .local _ .vmem, ⟨3, _⟩ => ⟨S2x128x256, .bf16⟩
  | .local _ .vmem, ⟨4, _⟩ => ⟨S256x256, .f32⟩
  | .local _ .vmem, ⟨5, _⟩ => ⟨S4x2x64x256, .bf16⟩
  | .local _ .vmem, ⟨6, _⟩ => ⟨S4x2x3x64x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_2 : BitVec 32 := 1#32
  let v10 : BitVec 32 := Scalar.muli v3 c1_i32_2
  let v11 : BitVec 32 := Scalar.addi c0_i32 v10
  v11.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_4 : BitVec 32 := 1#32
  let v12 : BitVec 32 := Scalar.muli v4 c1_i32_4
  let v13 : BitVec 32 := Scalar.addi c0_i32_5 v12
  v13.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v5 : BitVec 32 := Scalar.xori v2 c2_i32
  let c1_i32_7 : BitVec 32 := 1#32
  let v14 : BitVec 32 := Scalar.muli v5 c1_i32_7
  let v15 : BitVec 32 := Scalar.addi c0_i32_8 v14
  v15.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v6 : BitVec 32 := Scalar.xori v2 c4_i32
  let c1_i32_10 : BitVec 32 := 1#32
  let v16 : BitVec 32 := Scalar.muli v6 c1_i32_10
  let v17 : BitVec 32 := Scalar.addi c0_i32_11 v16
  v17.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v7 : BitVec 32 := Scalar.xori v2 c8_i32
  let c1_i32_13 : BitVec 32 := 1#32
  let v18 : BitVec 32 := Scalar.muli v7 c1_i32_13
  let v19 : BitVec 32 := Scalar.addi c0_i32_14 v18
  v19.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v8 : BitVec 32 := Scalar.xori v2 c12_i32
  let c1_i32_16 : BitVec 32 := 1#32
  let v20 : BitVec 32 := Scalar.muli v8 c1_i32_16
  let v21 : BitVec 32 := Scalar.addi c0_i32_17 v20
  v21.toNat
def k0_dev7 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_58 : BitVec 32 := 1#32
  let v97 : BitVec 32 := Scalar.muli v3 c1_i32_58
  let v98 : BitVec 32 := Scalar.addi c0_i32_59 v97
  v98.toNat
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_75 : BitVec 32 := 1#32
  let v107 : BitVec 32 := Scalar.muli v4 c1_i32_75
  let v108 : BitVec 32 := Scalar.addi c0_i32_76 v107
  v108.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v5 : BitVec 32 := Scalar.xori v2 c2_i32
  let c1_i32_92 : BitVec 32 := 1#32
  let v117 : BitVec 32 := Scalar.muli v5 c1_i32_92
  let v118 : BitVec 32 := Scalar.addi c0_i32_93 v117
  v118.toNat
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v6 : BitVec 32 := Scalar.xori v2 c4_i32
  let c1_i32_116 : BitVec 32 := 1#32
  let v148 : BitVec 32 := Scalar.muli v6 c1_i32_116
  let v149 : BitVec 32 := Scalar.addi c0_i32_117 v148
  v149.toNat
def k0_dev11 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v7 : BitVec 32 := Scalar.xori v2 c8_i32
  let c1_i32_133 : BitVec 32 := 1#32
  let v158 : BitVec 32 := Scalar.muli v7 c1_i32_133
  let v159 : BitVec 32 := Scalar.addi c0_i32_134 v158
  v159.toNat
def k0_dev12 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v8 : BitVec 32 := Scalar.xori v2 c12_i32
  let c1_i32_150 : BitVec 32 := 1#32
  let v168 : BitVec 32 := Scalar.muli v8 c1_i32_150
  let v169 : BitVec 32 := Scalar.addi c0_i32_151 v168
  v169.toNat
def k0_dev13 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_173 : BitVec 32 := 1#32
  let v199 : BitVec 32 := Scalar.muli v3 c1_i32_173
  let v200 : BitVec 32 := Scalar.addi c0_i32_174 v199
  v200.toNat
def k0_dev14 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_190 : BitVec 32 := 1#32
  let v209 : BitVec 32 := Scalar.muli v4 c1_i32_190
  let v210 : BitVec 32 := Scalar.addi c0_i32_191 v209
  v210.toNat
def k0_dev15 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v5 : BitVec 32 := Scalar.xori v2 c2_i32
  let c1_i32_207 : BitVec 32 := 1#32
  let v219 : BitVec 32 := Scalar.muli v5 c1_i32_207
  let v220 : BitVec 32 := Scalar.addi c0_i32_208 v219
  v220.toNat
def k0_dev16 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v6 : BitVec 32 := Scalar.xori v2 c4_i32
  let c1_i32_230 : BitVec 32 := 1#32
  let v250 : BitVec 32 := Scalar.muli v6 c1_i32_230
  let v251 : BitVec 32 := Scalar.addi c0_i32_231 v250
  v251.toNat
def k0_dev17 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v7 : BitVec 32 := Scalar.xori v2 c8_i32
  let c1_i32_247 : BitVec 32 := 1#32
  let v260 : BitVec 32 := Scalar.muli v7 c1_i32_247
  let v261 : BitVec 32 := Scalar.addi c0_i32_248 v260
  v261.toNat
def k0_dev18 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v8 : BitVec 32 := Scalar.xori v2 c12_i32
  let c1_i32_264 : BitVec 32 := 1#32
  let v270 : BitVec 32 := Scalar.muli v8 c1_i32_264
  let v271 : BitVec 32 := Scalar.addi c0_i32_265 v270
  v271.toNat
def k0_dev19 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v6 : BitVec 32 := Scalar.xori v2 c4_i32
  let c1_i32_351 : BitVec 32 := 1#32
  let v320 : BitVec 32 := Scalar.muli v6 c1_i32_351
  let v321 : BitVec 32 := Scalar.addi c0_i32_352 v320
  v321.toNat
def k0_dev20 (d0 : Dev nD) : Nat :=
  let c0_i32_369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v7 : BitVec 32 := Scalar.xori v2 c8_i32
  let c1_i32_368 : BitVec 32 := 1#32
  let v330 : BitVec 32 := Scalar.muli v7 c1_i32_368
  let v331 : BitVec 32 := Scalar.addi c0_i32_369 v330
  v331.toNat
def k0_dev21 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v8 : BitVec 32 := Scalar.xori v2 c12_i32
  let c1_i32_385 : BitVec 32 := 1#32
  let v340 : BitVec 32 := Scalar.muli v8 c1_i32_385
  let v341 : BitVec 32 := Scalar.addi c0_i32_386 v340
  v341.toNat
def k0_dev22 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v6 : BitVec 32 := Scalar.xori v2 c4_i32
  let c1_i32_472 : BitVec 32 := 1#32
  let v390 : BitVec 32 := Scalar.muli v6 c1_i32_472
  let v391 : BitVec 32 := Scalar.addi c0_i32_473 v390
  v391.toNat
def k0_dev23 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v7 : BitVec 32 := Scalar.xori v2 c8_i32
  let c1_i32_489 : BitVec 32 := 1#32
  let v400 : BitVec 32 := Scalar.muli v7 c1_i32_489
  let v401 : BitVec 32 := Scalar.addi c0_i32_490 v400
  v401.toNat
def k0_dev24 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v8 : BitVec 32 := Scalar.xori v2 c12_i32
  let c1_i32_506 : BitVec 32 := 1#32
  let v410 : BitVec 32 := Scalar.muli v8 c1_i32_506
  let v411 : BitVec 32 := Scalar.addi c0_i32_507 v410
  v411.toNat
def k0_dev25 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_593 : BitVec 32 := 1#32
  let v460 : BitVec 32 := Scalar.muli v3 c1_i32_593
  let v461 : BitVec 32 := Scalar.addi c0_i32_594 v460
  v461.toNat
def k0_dev26 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_610 : BitVec 32 := 1#32
  let v470 : BitVec 32 := Scalar.muli v4 c1_i32_610
  let v471 : BitVec 32 := Scalar.addi c0_i32_611 v470
  v471.toNat
def k0_dev27 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v5 : BitVec 32 := Scalar.xori v2 c2_i32
  let c1_i32_627 : BitVec 32 := 1#32
  let v480 : BitVec 32 := Scalar.muli v5 c1_i32_627
  let v481 : BitVec 32 := Scalar.addi c0_i32_628 v480
  v481.toNat
def k0_dev28 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_714 : BitVec 32 := 1#32
  let v530 : BitVec 32 := Scalar.muli v3 c1_i32_714
  let v531 : BitVec 32 := Scalar.addi c0_i32_715 v530
  v531.toNat
def k0_dev29 (d0 : Dev nD) : Nat :=
  let c0_i32_732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_731 : BitVec 32 := 1#32
  let v540 : BitVec 32 := Scalar.muli v4 c1_i32_731
  let v541 : BitVec 32 := Scalar.addi c0_i32_732 v540
  v541.toNat
def k0_dev30 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v5 : BitVec 32 := Scalar.xori v2 c2_i32
  let c1_i32_748 : BitVec 32 := 1#32
  let v550 : BitVec 32 := Scalar.muli v5 c1_i32_748
  let v551 : BitVec 32 := Scalar.addi c0_i32_749 v550
  v551.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x2 : Shape := ⟨2, ![256, 2]⟩
abbrev S32x128x256 : Shape := ⟨3, ![32, 128, 256]⟩
abbrev S256x32 : Shape := ⟨2, ![256, 32]⟩
abbrev S_ : Shape := ⟨0, ![]⟩
abbrev S256 : Shape := ⟨1, ![256]⟩
abbrev S256x1 : Shape := ⟨2, ![256, 1]⟩
abbrev S256x2x1 : Shape := ⟨3, ![256, 2, 1]⟩
abbrev S1 : Shape := ⟨1, ![1]⟩
abbrev S1x1x1 : Shape := ⟨3, ![1, 1, 1]⟩
abbrev S256x128x256 : Shape := ⟨3, ![256, 128, 256]⟩
abbrev S256x256 : Shape := ⟨2, ![256, 256]⟩

abbrev nBuf : Space → Nat
  | .hbm => 75
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x2, .i32⟩
  | .hbm, ⟨3, _⟩ => ⟨S32x128x256, .bf16⟩
  | .hbm, ⟨4, _⟩ => ⟨S256x128, .f32⟩
  | .hbm, ⟨5, _⟩ => ⟨S128x32, .f32⟩
  | .hbm, ⟨6, _⟩ => ⟨S256x32, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x32, .f32⟩
  | .hbm, ⟨11, _⟩ => ⟨S256x32, .f32⟩
  | .hbm, ⟨12, _⟩ => ⟨S256x32, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x32, .f32⟩
  | .hbm, ⟨17, _⟩ => ⟨S256x32, .f32⟩
  | .hbm, ⟨18, _⟩ => ⟨S_, .i32⟩
  | .hbm, ⟨19, _⟩ => ⟨S256x2, .i32⟩
  | .hbm, ⟨20, _⟩ => ⟨S256x2, .i1⟩
  | .hbm, ⟨21, _⟩ => ⟨S_, .i32⟩
  | .hbm, ⟨22, _⟩ => ⟨S256x2, .i32⟩
  | .hbm, ⟨23, _⟩ => ⟨S256x2, .i32⟩
  | .hbm, ⟨24, _⟩ => ⟨S256x2, .i32⟩
  | .hbm, ⟨25, _⟩ => ⟨S256x2x1, .i32⟩
  | .hbm, ⟨26, _⟩ => ⟨S1, .i32⟩
  | .hbm, ⟨27, _⟩ => ⟨S_, .i32⟩
  | .hbm, ⟨28, _⟩ => ⟨S256x2x1, .i32⟩
  | .hbm, ⟨29, _⟩ => ⟨S256x2x1, .i1⟩
  | .hbm, ⟨30, _⟩ => ⟨S1x1x1, .i32⟩
  | .hbm, ⟨31, _⟩ => ⟨S256x2x1, .i32⟩
  | .hbm, ⟨32, _⟩ => ⟨S256x2x1, .i1⟩
  | .hbm, ⟨33, _⟩ => ⟨S256x2x1, .i1⟩
  | .hbm, ⟨34, _⟩ => ⟨S_, .i1⟩
  | .hbm, ⟨35, _⟩ => ⟨S256x2, .i1⟩
  | .hbm, ⟨36, _⟩ => ⟨S256x2, .f32⟩
  | .hbm, ⟨37, _⟩ => ⟨S_, .f32⟩
  | .hbm, ⟨38, _⟩ => ⟨S256x2, .f32⟩
  | .hbm, ⟨39, _⟩ => ⟨S256x2, .f32⟩
  | .hbm, ⟨40, _⟩ => ⟨S256x1, .f32⟩
  | .hbm, ⟨41, _⟩ => ⟨S256x1, .f32⟩
  | .hbm, ⟨42, _⟩ => ⟨S256x1, .f32⟩
  | .hbm, ⟨43, _⟩ => ⟨S32x128x256, .f32⟩
  | .hbm, ⟨44, _⟩ => ⟨S256x1, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S256x128x256, .f32⟩
  | .hbm, ⟨55, _⟩ => ⟨S256x256, .f32⟩
  | .hbm, ⟨56, _⟩ => ⟨S256x1, .i32⟩
  | .hbm, ⟨57, _⟩ => ⟨S256, .i32⟩
  | .hbm, ⟨58, _⟩ => ⟨S_, .i32⟩
  | .hbm, ⟨59, _⟩ => ⟨S256, .i32⟩
  | .hbm, ⟨60, _⟩ => ⟨S256, .i1⟩
  | .hbm, ⟨61, _⟩ => ⟨S_, .i32⟩
  | .hbm, ⟨62, _⟩ => ⟨S256, .i32⟩
  | .hbm, ⟨63, _⟩ => ⟨S256, .i32⟩
  | .hbm, ⟨64, _⟩ => ⟨S256, .i32⟩
  | .hbm, ⟨65, _⟩ => ⟨S256x1, .i32⟩
  | .hbm, ⟨66, _⟩ => ⟨S256x128x256, .f32⟩
  | .hbm, ⟨67, _⟩ => ⟨S256x256, .f32⟩
  | .hbm, ⟨68, _⟩ => ⟨S256x1, .f32⟩
  | .hbm, ⟨69, _⟩ => ⟨S256x256, .f32⟩
  | .hbm, ⟨70, _⟩ => ⟨S256x256, .f32⟩
  | .hbm, ⟨71, _⟩ => ⟨S256x1, .f32⟩
  | .hbm, ⟨72, _⟩ => ⟨S256x256, .f32⟩
  | .hbm, ⟨73, _⟩ => ⟨S256x256, .f32⟩
  | .hbm, ⟨74, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_1 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_2 : Ref sig .tc := ⟨.hbm, 58, rfl⟩
abbrev main_v29 : Ref sig .tc := ⟨.hbm, 59, rfl⟩
abbrev main_v30 : Ref sig .tc := ⟨.hbm, 60, rfl⟩
abbrev main_c_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩

abbrev nD : Nat := 1
abbrev τ : Topo := Topo.v7x

variable {F : FTy → Type} [FloatOps F]
-- ==== Proof.Slots.lean ====
/-
# Slots: the transfers of the kernel, their partners, buffers and semaphores

A transfer is named by its slot `(chain, phase, position)`. Slot `k` of device `c` goes to the device whose number is
`c` xor the slot's mask; the receiver of slot `k` receives from the sender by the same mask, because xor undoes itself.
This file names, for each slot, the partner, the order in which the body starts, waits for and drains the transfers,
and the views and semaphores that the kernel's text addresses.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.Ep

open Cert.KernelIdeal Cert.KernelIdeal.Gen
open Idealize.ShloMosaic Idealize.ShloMosaic.TcCoe

/-! ## Slots and their order -/

/-- A source buffer: chain and phase. -/
abbrev Src : Type := Fin 4 × Fin 2
/-- A transfer: chain, phase and position among the three transfers of the source buffer. -/
abbrev Slot : Type := Fin 4 × Fin 2 × Fin 3

/-- The source buffer of a slot. -/
def srcOf (k : Slot) : Src := (k.1, k.2.1)

/-- The place of a source buffer in the order in which the body fills them. -/
def pos (s : Src) : ℕ := if s.2 = 0 then s.1.val else 4 + (match s.1 with | 0 => 0 | 1 => 2 | 2 => 1 | 3 => 3)

/-- The place of a slot in the order in which the body starts the transfers. -/
def sendOrd (k : Slot) : ℕ := 3 * pos (srcOf k) + k.2.2.val

/-- The place of a slot in the order in which the body waits for the incoming transfers. -/
def recvOrd (k : Slot) : ℕ :=
  if k.2.1 = 0 then 3 * (match k.1 with | 0 => 0 | 1 => 2 | 2 => 1 | 3 => 3) + k.2.2.val
  else 12 + 3 * (match k.1 with | 0 => 2 | 1 => 0 | 2 => 3 | 3 => 1) + k.2.2.val

/-- The place of a slot in the order in which the body waits for its own transfers to have left. -/
def drainOrd (k : Slot) : ℕ := 6 * k.1.val + 3 * k.2.1.val + k.2.2.val

/-- The place of a chain in the order in which the body stores the result's rows. -/
def outOrd (ch : Fin 4) : ℕ := match ch with | 0 => 2 | 1 => 0 | 2 => 3 | 3 => 1

theorem pos_inj : ∀ a b : Src, pos a = pos b → a = b := by decide
theorem sendOrd_inj : ∀ a b : Slot, sendOrd a = sendOrd b → a = b := by decide
theorem recvOrd_inj : ∀ a b : Slot, recvOrd a = recvOrd b → a = b := by decide
theorem drainOrd_inj : ∀ a b : Slot, drainOrd a = drainOrd b → a = b := by decide
theorem outOrd_inj : ∀ a b : Fin 4, outOrd a = outOrd b → a = b := by decide
theorem sendOrd_lt : ∀ k : Slot, sendOrd k < 24 := by decide
theorem recvOrd_lt : ∀ k : Slot, recvOrd k < 24 := by decide
theorem drainOrd_lt : ∀ k : Slot, drainOrd k < 24 := by decide

/-! ## Partners -/

/-- The mask names `0 … 5` and the masks that they stand for. -/
def maskVal (m : Fin 6) : ℕ := match m with | 0 => 1 | 1 => 3 | 2 => 2 | 3 => 4 | 4 => 8 | 5 => 12

/-- The partner of device `c` under mask `m`. -/
def par (m : Fin 6) (c : Dev nD) : Dev nD := ⟨(c.val ^^^ maskVal m) % 16, Nat.mod_lt _ (by decide)⟩

theorem par_par (m : Fin 6) (c : Dev nD) : par m (par m c) = c := by revert m c; decide

/-- `par m` as a permutation of the devices. -/
def parEquiv (m : Fin 6) : Dev nD ≃ Dev nD := ⟨par m, par m, par_par m, par_par m⟩

/-- The mask of a slot: the even chains use the plane's masks first, the odd chains last. -/
def msk (k : Slot) : Fin 6 := if (k.1.val + k.2.1.val) % 2 = 0 then ⟨k.2.2.val, by omega⟩ else ⟨3 + k.2.2.val, by omega⟩

/-- The device that slot `k` of device `c` goes to, and that device `c` receives its slot `k` from. -/
def peer (k : Slot) (c : Dev nD) : Dev nD := par (msk k) c

theorem peer_peer (k : Slot) (c : Dev nD) : peer k (peer k c) = c := par_par _ _

/-! ## Buffers and semaphores -/

abbrev xM : Memref sig .tc .vmem S256x128 .bf16 := Memref.whole cc0_stg0_0
abbrev rwM : Memref sig .tc .vmem S128x32 .bf16 := Memref.whole cc0_stg1_0
abbrev ixM : Memref sig .tc .vmem S256x2 .i32 := Memref.whole cc0_stg2_0
abbrev ewM : Memref sig .tc .vmem S2x128x256 .bf16 := Memref.whole cc0_stg3_0
abbrev oM : Memref sig .tc .vmem S256x256 .f32 := Memref.whole cc0_stg4_0
abbrev sndM : Memref sig .tc .vmem S4x2x64x256 .bf16 := Memref.whole cc0_scratch0
abbrev rcvM : Memref sig .tc .vmem S4x2x3x64x256 .bf16 := Memref.whole cc0_scratch1

theorem inb_src (s : Src) : ∀ a, (![s.1.val, s.2.val, 0, 0] : Fin 4 → Nat) a + S1x1x64x256.size a ≤ S4x2x64x256.size a := by
  revert s; decide
theorem inb_dst (k : Slot) : ∀ a, (![k.1.val, k.2.1.val, k.2.2.val, 0, 0] : Fin 5 → Nat) a + S1x1x1x64x256.size a ≤ S4x2x3x64x256.size a := by
  revert k; decide
theorem inb_sem (k : Slot) : ∀ a, (![k.1.val, k.2.1.val, k.2.2.val] : Fin 3 → Nat) a + S1x1x1.size a ≤ S4x2x3.size a := by
  revert k; decide
theorem inb_out (ch : Fin 4) : ∀ a, (![64 * ch.val, 0] : Fin 2 → Nat) a + S64x256.size a ≤ S256x256.size a := by
  revert ch; decide

/-- The rectangle of the send buffer that source buffer `s` is. -/
abbrev srcR (s : Src) : Rect S4x2x64x256 := Rect.unit (s := S4x2x64x256) ![s.1.val, s.2.val, 0, 0] S1x1x64x256.size (inb_src s)
/-- The rectangle of the receive buffer that slot `k` is. -/
abbrev dstR (k : Slot) : Rect S4x2x3x64x256 := Rect.unit (s := S4x2x3x64x256) ![k.1.val, k.2.1.val, k.2.2.val, 0, 0] S1x1x1x64x256.size (inb_dst k)
/-- The rows of the result that chain `ch` stores. -/
abbrev outR (ch : Fin 4) : Rect S256x256 := Rect.unit (s := S256x256) ![64 * ch.val, 0] S64x256.size (inb_out ch)

/-- Source buffer `s` as a block of 64 rows. -/
abbrev srcM (s : Src) : Memref sig .tc .vmem S64x256 .bf16 := (sndM.slice (srcR s) (fun _ => rfl)).squeeze S64x256 squeezes_S1x1x64x256_S64x256
/-- Slot `k` of the receive buffer as a block of 64 rows. -/
abbrev dstM (k : Slot) : Memref sig .tc .vmem S64x256 .bf16 := (rcvM.slice (dstR k) (fun _ => rfl)).squeeze S64x256 squeezes_S1x1x1x64x256_S64x256

/-- The semaphore that counts slot `k`'s data leaving, -/
def sendSem (k : Slot) : DmaSem sig :=
  ((cc0_scratch2.slice (Rect.unit (s := S4x2x3) ![k.1.val, k.2.1.val, k.2.2.val] S1x1x1.size (inb_sem k))).squeeze S_ squeezes_S1x1x1_S_).sem
/-- and the one that counts it arriving. -/
def recvSem (k : Slot) : DmaSem sig :=
  ((cc0_scratch3.slice (Rect.unit (s := S4x2x3) ![k.1.val, k.2.1.val, k.2.2.val] S1x1x1.size (inb_sem k))).squeeze S_ squeezes_S1x1x1_S_).sem

theorem sendSem_val : ∀ k : Slot, (sendSem k).val = 5 + drainOrd k := by decide
theorem recvSem_val : ∀ k : Slot, (recvSem k).val = 29 + drainOrd k := by decide

/-- The barrier semaphore. -/
abbrev barS : Sem sig := (SemArray.scalar (sig.barrier 0 rfl) : Sems sig S_).sem

/-- The kinds of cells of one device: the barrier, the send cells (`false`) and the receive cells (`true`) of the slots. -/
abbrev Kd : Type := Option (Bool × Slot)

/-- The semaphore of a kind. -/
def csem (kd : Kd) : SemLoc sig := match kd with
  | none => .reg barS
  | some (false, k) => .dma (sendSem k)
  | some (true, k) => .dma (recvSem k)

/-- The slot of a drain number. -/
def slotAt (n : ℕ) : Slot := (⟨n / 6 % 4, Nat.mod_lt _ (by decide)⟩, ⟨n / 3 % 2, Nat.mod_lt _ (by decide)⟩, ⟨n % 3, Nat.mod_lt _ (by decide)⟩)

theorem slotAt_drainOrd : ∀ k : Slot, slotAt (drainOrd k) = k := by decide

/-- The kind of a semaphore: the first five transfer semaphores are the staging buffers'. -/
def kindOf (sm : SemLoc sig) : Option Kd := match sm with
  | .reg _ => some none
  | .dma q => if q.val < 5 then none else if q.val < 29 then some (some (false, slotAt (q.val - 5))) else some (some (true, slotAt (q.val - 29)))

theorem kindOf_csem (kd : Kd) : kindOf (csem kd) = some kd := by
  rcases kd with _ | ⟨_ | _, k⟩
  · rfl
  · have := drainOrd_lt k
    simp only [kindOf, csem, sendSem_val]
    rw [if_neg (by omega), if_pos (by omega), Nat.add_sub_cancel_left, slotAt_drainOrd]
  · simp only [kindOf, csem, recvSem_val]
    rw [if_neg (by omega), if_neg (by omega), Nat.add_sub_cancel_left, slotAt_drainOrd]

theorem csem_inj {a b : Kd} (h : csem a = csem b) : a = b := by
  have := congrArg kindOf h
  rwa [kindOf_csem, kindOf_csem, Option.some_inj] at this

/-- What one transfer of 64 rows counts on its semaphores. -/
abbrev N : ℕ := (dstM (0, 0, 0)).view.dmaCredit

theorem N_pos : 0 < N := View.dmaCredit_pos _ (by decide)
theorem credit_dst (k : Slot) : (dstM k).view.dmaCredit = N := rfl
theorem credit_src (s : Src) : (srcM s).view.dmaCredit = N := rfl

end Cert.Ep

end
-- ==== Proof.Values.lean ====
/-
# Values: what the buffers of each device hold, as functions of what every device's input blocks hold

A device computes, for each chain of 64 rows, the part of the result that its own two experts give (`acc0`). Phase 0 adds
the rounded parts of three partners (`acc1`), phase 1 those of the other partners (`res`). `blk c s` is what
device `c` puts into source buffer `s`, that is, what it sends in slots `(s, 0)`, `(s, 1)`, `(s, 2)`.
-/
module

public import proofs.«01_k».proof.Proof.Slots

@[expose] public section

noncomputable section

namespace Cert.Ep

open Cert.KernelIdeal Cert.KernelIdeal.Gen
open Idealize.ShloMosaic Idealize.ShloMosaic.TcCoe

variable {F : FTy → Type} [FloatOps F]

/-- What one device reads of its inputs: the tokens, the router, the two columns of expert indices, its two experts. -/
structure Ins (F : FTy → Type) where
  x : Vec F S256x128 .bf16
  rw : Vec F S128x32 .bf16
  i0 : Vec F S256x1 .i32
  i1 : Vec F S256x1 .i32
  e0 : Vec F S1x128x256 .bf16
  e1 : Vec F S1x128x256 .bf16

variable (ins : Dev nD → Ins F) (c : Dev nD)

/-- The place of a device in the axis of experts. -/
def rank (c : Dev nD) : BitVec 32 := Scalar.remsi (Scalar.divsi (Dev.word c) 1#32) 16#32

/-- The tokens as the products read them. -/
def xv : FVec F S256x128 .bf16 := k0_pay1 (ins c).x
/-- The second column of expert indices. -/
def idx1 : IVec S256x1 32 := k0_pay4 (F := F) (ins c).i1
/-- The exponential of the second chosen score, less the greater one; -/
def exp1 : FVec F S256x1 .f32 := k0_pay9 (xv ins c) (ins c).rw (ins c).i0 (ins c).i1
/-- the sum of the two exponentials. -/
def den : FVec F S256x1 .f32 := k0_pay10 (xv ins c) (ins c).rw (ins c).i0 (ins c).i1
/-- The weight of the device's first expert for each token, -/
def wt0 : FVec F S256x1 .f32 := k0_pay11 (rank c) (xv ins c) (ins c).rw (ins c).i0 (ins c).i1
/-- the number of the second one, -/
def exp1No (c : Dev nD) : BitVec 32 := Scalar.addi (Scalar.muli (rank c) 2#32) 1#32
/-- its weight where the first index chose it, -/
def wt1a : FVec F S256x1 .f32 := k0_pay12 (rank c) (xv ins c) (ins c).rw (ins c).i0 (ins c).i1
/-- and its weight. -/
def wt1 : FVec F S256x1 .f32 := k0_pay13 (idx1 ins c) (exp1 ins c) (den ins c) (exp1No c) (wt1a ins c)
/-- The first expert's matrix -/
def ew0 : FVec F S128x256 .bf16 := k0_pay14 (ins c).e0
/-- and the second's. -/
def ew1 : FVec F S128x256 .bf16 := k0_pay15 (ins c).e1

/-- What the device's own two experts give to the rows of a chain. -/
def acc0 (ch : Fin 4) : FVec F S64x256 .f32 := match ch with
  | 0 => k0_pay16 (xv ins c) (idx1 ins c) (exp1 ins c) (den ins c) (wt0 ins c) (exp1No c) (wt1a ins c) (ins c).e0 (ins c).e1
  | 1 => k0_pay18 (xv ins c) (wt0 ins c) (wt1 ins c) (ew0 ins c) (ew1 ins c)
  | 2 => k0_pay20 (xv ins c) (wt0 ins c) (wt1 ins c) (ew0 ins c) (ew1 ins c)
  | 3 => k0_pay25 (xv ins c) (wt1 ins c) (ew0 ins c) (ew1 ins c) k0_pay22 (k0_pay23 (xv ins c)) (k0_pay24 (wt0 ins c))

/-- A sum with a received block added. -/
def addIn (a : FVec F S64x256 .f32) (b : FVec F S64x256 .bf16) : FVec F S64x256 .f32 := addf a (extf .f32 b bitsLt_bf16_f32)

/-- A sum as it is sent. -/
def rnd (a : FVec F S64x256 .f32) : FVec F S64x256 .bf16 := truncf .bf16 a bitsLt_bf16_f32

/-- The part of a chain that the partner in slot `(ch, 0, j)` computed, as received. -/
def in0 (ch : Fin 4) (j : Fin 3) : FVec F S64x256 .bf16 := rnd (acc0 ins (peer (ch, 0, j) c) ch)

/-- The sum of a chain after phase 0. -/
def acc1 (ch : Fin 4) : FVec F S64x256 .f32 :=
  addIn (addIn (addIn (acc0 ins c ch) (in0 ins c ch 0)) (in0 ins c ch 1)) (in0 ins c ch 2)

/-- What device `c` puts into source buffer `s`. -/
def blk (s : Src) : FVec F S64x256 .bf16 := if s.2 = 0 then rnd (acc0 ins c s.1) else rnd (acc1 ins c s.1)

/-- What device `c` receives in slot `k`. -/
def inb (k : Slot) : FVec F S64x256 .bf16 := blk ins (peer k c) (srcOf k)

/-- The rows of a chain in the result. -/
def res (ch : Fin 4) : FVec F S64x256 .f32 :=
  addIn (addIn (addIn (acc1 ins c ch) (inb ins c (ch, 1, 0))) (inb ins c (ch, 1, 1))) (inb ins c (ch, 1, 2))

theorem blk_zero (ch : Fin 4) : blk ins c (ch, 0) = rnd (acc0 ins c ch) := rfl
theorem blk_one (ch : Fin 4) : blk ins c (ch, 1) = rnd (acc1 ins c ch) := rfl

theorem acc1_eq (ch : Fin 4) :
    acc1 ins c ch = addIn (addIn (addIn (acc0 ins c ch) (inb ins c (ch, 0, 0))) (inb ins c (ch, 0, 1))) (inb ins c (ch, 0, 2)) := rfl

end Cert.Ep

end
-- ==== Proof.Share.lean ====
/-
# Share: the weight of one of two chosen experts

The weight of the expert with score `a` beside one with score `b` is `exp a / (exp a + exp b)`. Scores shifted by a
common number give the same weights, and so do the two members of a softmax over all experts, divided by their sum.
-/
module

public import Idealize.ShloMosaic.Lib.Pointwise

@[expose] public section

noncomputable section

namespace Cert.Ep

open Idealize.ShloMosaic

/-- The weight of the expert with score `a` beside one with score `b`. -/
def share (a b : ℝ) : ℝ := Real.exp a / (Real.exp a + Real.exp b)

theorem share_nonneg (a b : ℝ) : 0 ≤ share a b := by unfold share; positivity

/-- A quotient of real numbers is the real quotient. -/
theorem div_real (a b : ℝ) (h : b ≠ 0) : Ideal.div (a : EReal) (b : EReal) = ((a / b : ℝ) : EReal) := by
  rw [Ideal.div_coe h, ← EReal.coe_mul, mul_one_div]

/-- Two scores shifted by `m`: the weight of the first, -/
theorem share_left (a b m : ℝ) :
    Ideal.div (Ideal.exp ((a : EReal) - (m : EReal))) (Ideal.exp ((a : EReal) - (m : EReal)) + Ideal.exp ((b : EReal) - (m : EReal))) = (share a b : EReal) := by
  rw [← EReal.coe_sub, ← EReal.coe_sub, Ideal.exp_coe, Ideal.exp_coe, ← EReal.coe_add, div_real _ _ (by positivity)]
  unfold share
  rw [Real.exp_sub, Real.exp_sub, ← add_div, div_div_div_cancel_right₀ (Real.exp_pos m).ne']

/-- and of the second. -/
theorem share_right (a b m : ℝ) :
    Ideal.div (Ideal.exp ((b : EReal) - (m : EReal))) (Ideal.exp ((a : EReal) - (m : EReal)) + Ideal.exp ((b : EReal) - (m : EReal))) = (share b a : EReal) := by
  rw [add_comm, share_left]

/-- Two members of a softmax over more scores: the first by their sum, -/
theorem share_softmax_left (a b m S : ℝ) (hS : 0 < S) :
    Ideal.div ((Real.exp (a - m) / S : ℝ) : EReal) (((Real.exp (a - m) / S : ℝ) : EReal) + ((Real.exp (b - m) / S : ℝ) : EReal)) = (share a b : EReal) := by
  rw [← EReal.coe_add, div_real _ _ (by positivity)]
  unfold share
  rw [← add_div, div_div_div_cancel_right₀ hS.ne', Real.exp_sub, Real.exp_sub, ← add_div, div_div_div_cancel_right₀ (Real.exp_pos m).ne']

/-- and the second. -/
theorem share_softmax_right (a b m S : ℝ) (hS : 0 < S) :
    Ideal.div ((Real.exp (b - m) / S : ℝ) : EReal) (((Real.exp (a - m) / S : ℝ) : EReal) + ((Real.exp (b - m) / S : ℝ) : EReal)) = (share b a : EReal) := by
  rw [add_comm, share_softmax_left b a m S hS]

/-! ## Sums and the greatest of real numbers -/

/-- A sum of real numbers is real. -/
theorem sum_real {ι : Type} (s : Finset ι) (f : ι → EReal) (h : ∀ i, ∃ r : ℝ, f i = (r : EReal)) : ∃ r : ℝ, ∑ i ∈ s, f i = (r : EReal) :=
  Finset.sum_induction f (fun z => ∃ r : ℝ, z = (r : EReal)) (fun _ _ ⟨a, ha⟩ ⟨b, hb⟩ => ⟨a + b, by rw [ha, hb, EReal.coe_add]⟩) ⟨0, rfl⟩ fun i _ => h i

/-- A sum of positive real numbers over a nonempty type is a positive real number. -/
theorem sum_pos_real {ι : Type} [Fintype ι] [Nonempty ι] (f : ι → ℝ) (h : ∀ i, 0 < f i) : ∃ S : ℝ, 0 < S ∧ ∑ i, (f i : EReal) = (S : EReal) := by
  refine ⟨∑ i, f i, Finset.sum_pos (fun i _ => h i) Finset.univ_nonempty, ?_⟩
  exact (map_sum (⟨⟨(Real.toEReal), rfl⟩, EReal.coe_add⟩ : ℝ →+ EReal) f Finset.univ).symm

/-- The greatest of finitely many real numbers is real. -/
theorem max_real {ι : Type} [Fintype ι] [Nonempty ι] (f : ι → ℝ) : ∃ M : ℝ, Finset.univ.fold max ⊥ (fun i => (f i : EReal)) = (M : EReal) := by
  have h1 : Finset.univ.fold max ⊥ (fun i => (f i : EReal)) < ⊤ := (Finset.fold_max_lt _).mpr ⟨bot_lt_top, fun i _ => EReal.coe_lt_top _⟩
  have h2 : ⊥ < Finset.univ.fold max ⊥ (fun i => (f i : EReal)) :=
    (Finset.lt_fold_max _).mpr (.inr ⟨Classical.arbitrary ι, Finset.mem_univ _, EReal.bot_lt_coe _⟩)
  exact ⟨_, (EReal.coe_toReal h1.ne h2.ne').symm⟩

end Cert.Ep

end
-- ==== Proof.Weights.lean ====
/-
# Weights: what a device weighs its two experts with

For a token whose two experts are `a` and `b`, expert `n` has the weight of `a` when it is `a`, that of `b` when it is
`b`, and 0 when it is neither. The device computes this weight for each of its own two experts.
-/
module

public import proofs.«01_k».proof.Proof.Values
public import proofs.«01_k».proof.Proof.Share

@[expose] public section

set_option maxRecDepth 16384

noncomputable section

namespace Cert.Ep

open Cert.KernelIdeal Cert.KernelIdeal.Gen
open Idealize.ShloMosaic Idealize.ShloMosaic.TcCoe

/-- The weight of expert `n` for a token with scores `σ` and experts `a` and `b`. -/
def weight (σ : Fin 32 → ℝ) (a b n : Fin 32) : ℝ := if b = n then share (σ b) (σ a) else if a = n then share (σ a) (σ b) else 0

theorem weight_nonneg (σ : Fin 32 → ℝ) (a b n : Fin 32) : 0 ≤ weight σ a b n := by
  unfold weight
  split_ifs
  exacts [share_nonneg _ _, share_nonneg _ _, le_rfl]

/-- A choice by whether two expert numbers are the same. -/
theorem select_word {α : Type} (a b : Fin 32) (x y : α) :
    Scalar.select (IntOp.cmpi .eq (BitVec.ofNat 32 a.val) (BitVec.ofNat 32 b.val)) x y = if a = b then x else y := by
  rw [show IntOp.cmpi .eq (BitVec.ofNat 32 a.val) (BitVec.ofNat 32 b.val) = if a = b then 1#1 else 0#1 from (by decide :
    ∀ a b : Fin 32, IntOp.cmpi .eq (BitVec.ofNat 32 a.val) (BitVec.ofNat 32 b.val) = if a = b then 1#1 else 0#1) a b]
  split_ifs <;> rfl

/-- A sum that keeps the score of one expert alone. -/
theorem sum_select (σ : Fin 32 → ℝ) (a : Fin 32) :
    ∑ e : Fin 32, Scalar.select (IntOp.cmpi .eq (BitVec.ofNat 32 e.val) (BitVec.ofNat 32 a.val)) (σ e : EReal) 0 = (σ a : EReal) := by
  simp only [select_word]
  simp

theorem weight_coe (σ : Fin 32 → ℝ) (a b n : Fin 32) :
    (if b = n then (share (σ b) (σ a) : EReal) else if a = n then (share (σ a) (σ b) : EReal) else 0) = (weight σ a b n : EReal) := by
  unfold weight
  split_ifs <;> rfl

/-- The greater of two real numbers. -/
theorem max_coe (a b : ℝ) : max (a : EReal) (b : EReal) = ((max a b : ℝ) : EReal) := (EReal.coe_strictMono.monotone.map_max).symm

/-- The two experts of device `c`. -/
def expertOf (c : Dev nD) (q : Fin 2) : Fin 32 := ⟨2 * c.val + q.val, by have := c.isLt; have := q.isLt; change c.val < 16 at *; omega⟩

theorem expertNo0 : ∀ c : Dev nD, Scalar.addi (Scalar.muli (rank c) 2#32) 0#32 = BitVec.ofNat 32 (expertOf c 0).val := by decide
theorem expertNo1 : ∀ c : Dev nD, exp1No c = BitVec.ofNat 32 (expertOf c 1).val := by decide

section
variable (ins : Dev nD → Ins Ideal) (c : Dev nD) (t : Fin 256) (σ : Fin 32 → ℝ) (a b : Fin 32)
  (hσ : ∀ e, ∑ k, (ins c).x (ix2 t k) * (ins c).rw (ix2 k e) = (σ e : EReal))
  (ha : (ins c).i0 (ix2 t 0) = BitVec.ofNat 32 a.val) (hb : (ins c).i1 (ix2 t 0) = BitVec.ofNat 32 b.val)
include hσ ha hb

theorem wt0_apply : wt0 ins c (ix2 t 0) = (weight σ a b (expertOf c 0) : EReal) := by
  pointwise [wt0, xv, k0_pay1, k0_pay2, k0_pay3, k0_pay4, k0_pay5, k0_pay6, k0_pay7, k0_pay8, k0_pay9, k0_pay10, k0_pay11]
  simp only [ha, hb, hσ, sum_select]
  simp only [max_coe, share_left, share_right, expertNo0, select_word]
  exact weight_coe σ a b _

theorem wt1_apply : wt1 ins c (ix2 t 0) = (weight σ a b (expertOf c 1) : EReal) := by
  pointwise [wt1, wt1a, xv, idx1, exp1, den, k0_pay1, k0_pay2, k0_pay3, k0_pay4, k0_pay5, k0_pay6, k0_pay7, k0_pay8, k0_pay9, k0_pay10, k0_pay12, k0_pay13]
  simp only [ha, hb, hσ, sum_select]
  simp only [max_coe, share_left, share_right, expertNo1, show Scalar.addi (Scalar.muli (rank c) 2#32) 1#32 = exp1No c from rfl, select_word]
  exact weight_coe σ a b _

end

end Cert.Ep

end
-- ==== Proof.Part.lean ====
/-
# Part: what one device's two experts give

Row `r` of chain `ch` is token `64 * ch + r`. A device's part of it is the sum of its two experts' products, each
multiplied by the weight of the expert.
-/
module

public import proofs.«01_k».proof.Proof.Weights

@[expose] public section

set_option maxRecDepth 16384

noncomputable section

namespace Cert.Ep

open Cert.KernelIdeal Cert.KernelIdeal.Gen
open Idealize.ShloMosaic Idealize.ShloMosaic.TcCoe

/-- The token in row `r` of chain `ch`. -/
def tok (ch : Fin 4) (r : Fin 64) : Fin 256 := ⟨64 * ch.val + r.val, by omega⟩

variable (ins : Dev nD → Ins Ideal) (c : Dev nD)

/-- A device's part, the weights still inside the sums. -/
theorem acc0_sum (ch : Fin 4) (r : Fin 64) (j : Fin 256) :
    acc0 ins c ch (ix2 r j) = ∑ k, (ins c).x (ix2 (tok ch r) k) * wt0 ins c (ix2 (tok ch r) 0) * (ins c).e0 (ix3 0 k j)
      + ∑ k, (ins c).x (ix2 (tok ch r) k) * wt1 ins c (ix2 (tok ch r) 0) * (ins c).e1 (ix3 0 k j) := by
  match ch with
  | 0 =>
    unfold acc0
    pointwise [wt1, k0_pay16, xv, k0_pay1, k0_pay14, k0_pay15]
    rw [show tok 0 r = ⟨r.val, by omega⟩ from Fin.ext (Nat.zero_add _)]
  | 1 =>
    unfold acc0
    pointwise [k0_pay18, xv, k0_pay1, ew0, ew1, k0_pay14, k0_pay15]
    rfl
  | 2 =>
    unfold acc0
    pointwise [k0_pay20, xv, k0_pay1, ew0, ew1, k0_pay14, k0_pay15]
    rfl
  | 3 =>
    unfold acc0
    pointwise [k0_pay25, k0_pay22, k0_pay23, k0_pay24, xv, k0_pay1, ew0, ew1, k0_pay14, k0_pay15]
    rfl

/-- A real weight that is not negative comes out of a sum, whatever the other factors are. -/
theorem pull_weight {ι : Type} (s : Finset ι) (f g : ι → EReal) (w : ℝ) (hw : 0 ≤ w) :
    ∑ k ∈ s, f k * (w : EReal) * g k = (w : EReal) * ∑ k ∈ s, f k * g k := by
  induction s using Finset.cons_induction with
  | empty => simp
  | cons i s hi ih =>
    rw [Finset.sum_cons, Finset.sum_cons, ih, EReal.left_distrib_of_nonneg_of_ne_top (EReal.coe_nonneg.mpr hw) (EReal.coe_ne_top w),
      mul_comm (f i), mul_assoc]

/-- A device's part: its two experts' products by their weights. -/
theorem acc0_apply (ch : Fin 4) (r : Fin 64) (j : Fin 256) (σ : Fin 32 → ℝ) (a b : Fin 32)
    (hσ : ∀ e, ∑ k, (ins c).x (ix2 (tok ch r) k) * (ins c).rw (ix2 k e) = (σ e : EReal))
    (ha : (ins c).i0 (ix2 (tok ch r) 0) = BitVec.ofNat 32 a.val) (hb : (ins c).i1 (ix2 (tok ch r) 0) = BitVec.ofNat 32 b.val) :
    acc0 ins c ch (ix2 r j) = (weight σ a b (expertOf c 0) : EReal) * (∑ k, (ins c).x (ix2 (tok ch r) k) * (ins c).e0 (ix3 0 k j))
      + (weight σ a b (expertOf c 1) : EReal) * (∑ k, (ins c).x (ix2 (tok ch r) k) * (ins c).e1 (ix3 0 k j)) := by
  rw [acc0_sum, wt0_apply ins c _ σ a b hσ ha hb, wt1_apply ins c _ σ a b hσ ha hb, pull_weight _ _ _ _ (weight_nonneg σ a b _),
    pull_weight _ _ _ _ (weight_nonneg σ a b _)]

end Cert.Ep

end
-- ==== Proof.Total.lean ====
/-
# Total: the chains add up every device's part

The partners of phase 1 and the partners of phase 0 of each of them, with the device itself in both places, are all 16
devices, each once. So a device's rows of a chain are the sum of every device's part.
-/
module

public import proofs.«01_k».proof.Proof.Part

@[expose] public section

set_option maxRecDepth 16384

noncomputable section

namespace Cert.Ep

open Cert.KernelIdeal Cert.KernelIdeal.Gen
open Idealize.ShloMosaic Idealize.ShloMosaic.TcCoe

/-- The device itself, and its three partners in a phase of a chain. -/
def hop (ch : Fin 4) (ph : Fin 2) (i : Fin 4) (c : Dev nD) : Dev nD := match i with
  | 0 => c
  | 1 => peer (ch, ph, 0) c
  | 2 => peer (ch, ph, 1) c
  | 3 => peer (ch, ph, 2) c

theorem hops_reach : ∀ (ch : Fin 4) (c d : Dev nD), ∃ p : Fin 4 × Fin 4, hop ch 0 p.2 (hop ch 1 p.1 c) = d := by decide

theorem hops_bijective (ch : Fin 4) (c : Dev nD) : Function.Bijective fun p : Fin 4 × Fin 4 => hop ch 0 p.2 (hop ch 1 p.1 c) :=
  (Fintype.bijective_iff_surjective_and_card _).mpr ⟨hops_reach ch c, rfl⟩

variable (ins : Dev nD → Ins Ideal) (c : Dev nD) (ch : Fin 4) (i : S64x256.Idx)

theorem addIn_apply (a : FVec Ideal S64x256 .f32) (b : FVec Ideal S64x256 .bf16) : addIn a b i = a i + b i := rfl
theorem rnd_apply (a : FVec Ideal S64x256 .f32) : rnd a i = a i := rfl

theorem acc1_apply : acc1 ins c ch i = ∑ p : Fin 4, acc0 ins (hop ch 0 p c) ch i := by
  rw [Fin.sum_univ_four]
  simp only [acc1, addIn_apply, in0, rnd_apply]
  rfl

/-- A device's rows of a chain: the sum of every device's part. -/
theorem res_apply : res ins c ch i = ∑ d : Dev nD, acc0 ins d ch i := by
  rw [← (hops_bijective ch c).sum_comp (fun d => acc0 ins d ch i), Fintype.sum_prod_type]
  simp only [← acc1_apply]
  rw [Fin.sum_univ_four]
  simp only [res, addIn_apply, inb]
  rfl

/-- Every expert is one of the two of one device. -/
theorem experts_bijective : Function.Bijective fun p : Dev nD × Fin 2 => expertOf p.1 p.2 :=
  (Fintype.bijective_iff_surjective_and_card _).mpr ⟨fun e => ⟨(⟨e.val / 2, by have := e.isLt; change e.val / 2 < 16; omega⟩, ⟨e.val % 2, by omega⟩),
    Fin.ext (by show 2 * (e.val / 2) + e.val % 2 = e.val; omega)⟩, rfl⟩

/-- The experts' products by their weights: those of the two chosen experts remain. -/
theorem sum_weights (σ : Fin 32 → ℝ) (a b : Fin 32) (hab : a ≠ b) (Y : Fin 32 → EReal) :
    ∑ d : Dev nD, ((weight σ a b (expertOf d 0) : EReal) * Y (expertOf d 0) + (weight σ a b (expertOf d 1) : EReal) * Y (expertOf d 1))
      = (share (σ a) (σ b) : EReal) * Y a + (share (σ b) (σ a) : EReal) * Y b := by
  have h : ∀ n, (weight σ a b n : EReal) * Y n = (if a = n then (share (σ a) (σ b) : EReal) * Y n else 0) + (if b = n then (share (σ b) (σ a) : EReal) * Y n else 0) := fun n => by
    by_cases hb : b = n
    · have ha : a ≠ n := hb ▸ hab
      simp [weight, hb, ha]
    · by_cases ha : a = n <;> simp [weight, hb, ha]
  rw [← Finset.sum_congr rfl fun d _ => Fin.sum_univ_two fun q => (weight σ a b (expertOf d q) : EReal) * Y (expertOf d q),
    ← Fintype.sum_prod_type (f := fun p : Dev nD × Fin 2 => (weight σ a b (expertOf p.1 p.2) : EReal) * Y (expertOf p.1 p.2)),
    experts_bijective.sum_comp (fun n => (weight σ a b n : EReal) * Y n), Finset.sum_congr rfl fun n _ => h n, Finset.sum_add_distrib]
  simp

end Cert.Ep

end
-- ==== Proof.Ref.lean ====
/-
# Ref: what the reference computes, in parts

The reference's result is its operations applied to its four inputs: the scores, their softmax, the two probabilities
that a token's expert numbers pick out of it, and the two expert products, weighted and added.
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Ep.Ref

open Cert.ReferenceIdeal Cert.ReferenceIdeal.Gen
open Idealize.ShloMosaic

/-! ## The expert numbers: a negative one counted from the end -/

/-- The column of the softmax that each of a token's two expert numbers names, -/
def places (I : IVec S256x2 32) : IVec S256x2x1 32 :=
  shapeCast _ (select (cmpi .slt I (broadcastInDim S256x2 ![] bcast_S_S256x2 (constantI S_ 32 0#32)))
    (addi I (broadcastInDim S256x2 ![] bcast_S_S256x2 (constantI S_ 32 32#32))) I) shapeCasts_S256x2_S256x2x1

/-- whether it is a column of the softmax, -/
def inRange (I : IVec S256x2 32) : IVec S256x2 1 :=
  Host.reduce IntOp.andi (andi (cmpi .sge (places I) (broadcastInDim S256x2x1 ![] bcast_S_S256x2x1 (constantI S_ 32 0#32)))
    (cmpi .sle (places I) (broadcastInDim S256x2x1 ![0, 1, 2] bcast_S1x1x1_S256x2x1_0_1_2 (broadcastInDim S1x1x1 ![2] bcast_S1_S1x1x1_2 (constantI S1 32 31#32)))))
    (constantI S_ 1 1#1) reducesTo_S256x2x1_S256x2_d2 h_S_

/-- the tokens' first and second expert numbers, -/
def col0 (I : IVec S256x2 32) : IVec S256 32 := shapeCast _ (extractStridedSlice S256x1 ![0, 0] I slices_S256x2_S256x1_0_0) shapeCasts_S256x1_S256
def col1 (I : IVec S256x2 32) : IVec S256 32 := shapeCast _ (extractStridedSlice S256x1 ![0, 1] I slices_S256x2_S256x1_0_1) shapeCasts_S256x1_S256

/-- and the expert that a number names. -/
def wrapped (v : IVec S256 32) : IVec S256x1 32 :=
  broadcastInDim S256x1 ![0] bcast_S256_S256x1_0 (select (cmpi .slt v (broadcastInDim S256 ![] bcast_S_S256 (constantI S_ 32 0#32)))
    (addi v (broadcastInDim S256 ![] bcast_S_S256 (constantI S_ 32 32#32))) v)

/-! ## The softmax, and the result -/

variable {F : FTy → Type} [FloatOps F]
variable (X : Vec F S256x128 .bf16) (W : Vec F S128x32 .bf16) (I : IVec S256x2 32) (E : Vec F S32x128x256 .bf16)

/-- Every token's score with every expert, -/
def scores : FVec F S256x32 .f32 :=
  Host.dotGeneral dot_S256x128_S128x32_S256x32_1_0_0_1_n_n none (extf .f32 X bitsLt_bf16_f32) (extf .f32 W bitsLt_bf16_f32)

/-- the exponentials of the scores less the token's greatest, -/
def exps : FVec F S256x32 .f32 :=
  Host.exp (subf (scores X W) (broadcastInDim S256x32 ![0, 1] bcast_S256x1_S256x32_0_1 (broadcastInDim S256x1 ![0] bcast_S256_S256x1_0
    (Host.reduce FloatOps.maximumf (scores X W) (constant S_ .f32 0xFF800000#32) reducesTo_S256x32_S256_d1 h_S_))))

/-- the softmax, -/
def probs : FVec F S256x32 .f32 :=
  Host.divf (exps X W) (broadcastInDim S256x32 ![0, 1] bcast_S256x1_S256x32_0_1 (broadcastInDim S256x1 ![0] bcast_S256_S256x1_0
    (Host.reduceAdd (exps X W) (constant S_ .f32 0x00000000#32) reducesTo_S256x32_S256_d1 h_S_)))

/-- the probabilities of a token's two experts, -/
def taken : FVec F S256x2 .f32 :=
  select (inRange I) (Host.gather gather_S256x32_S256x2x1_S256x2_n_1_0_0_1_2_11 (probs X W) (places I))
    (broadcastInDim S256x2 ![] bcast_S_S256x2 (constant S_ .f32 0x7FC00000#32))

/-- of its first and of its second, -/
def g0 : FVec F S256x1 .f32 := extractStridedSlice S256x1 ![0, 0] (taken X W I) slices_S256x2_S256x1_0_0
def g1 : FVec F S256x1 .f32 := extractStridedSlice S256x1 ![0, 1] (taken X W I) slices_S256x2_S256x1_0_1

/-- the tokens multiplied by the matrices of the experts that `v` names, -/
def y (v : IVec S256 32) : FVec F S256x256 .f32 :=
  Host.dotGeneral dot_S256x128_S256x128x256_S256x256_1_1_n_2_0_0 none (extf .f32 X bitsLt_bf16_f32)
    (Host.gather gather_S32x128x256_S256x1_S256x128x256_12_0_n_n_0_1_1128256 (extf .f32 E bitsLt_bf16_f32) (wrapped v))

/-- and the result. -/
def out : FVec F S256x256 .f32 :=
  addf (mulf (broadcastInDim S256x256 ![0, 1] bcast_S256x1_S256x256_0_1 (Host.divf (g0 X W I) (addf (g0 X W I) (g1 X W I)))) (y X E (col0 I)))
    (mulf (broadcastInDim S256x256 ![0, 1] bcast_S256x1_S256x256_0_1 (Host.divf (g1 X W I) (addf (g0 X W I) (g1 X W I)))) (y X E (col1 I)))

/-- The reference's run leaves that result. -/
theorem res_eq (m : (ℓ : Loc nD τ sig) → Buf (Elt F) ℓ) (c : Dev nD) :
    Value.res_main_v43 m c = out (m ((c.tc : Thread nD τ).loc main_arg0)) (m ((c.tc : Thread nD τ).loc main_arg1))
      (m ((c.tc : Thread nD τ).loc main_arg2)) (m ((c.tc : Thread nD τ).loc main_arg3)) := rfl

end Cert.Ep.Ref

end
-- ==== Proof.Routed.lean ====
/-
# Routed: what the precondition gives

The precondition, read at the extended reals: every token and every router entry is a real number, and the two expert
numbers of a token are different numbers below 32.
-/
module

public import proofs.«01_k».proof.Defs
public import Idealize.ShloMosaic.Lib.Affine
public import Idealize.ShloMosaic.Lib.Tactic.WordOmega
public import Idealize.ShloMosaic.Lib.Pointwise

@[expose] public section

set_option maxRecDepth 16384

noncomputable section

namespace Cert.Ep

open Idealize.ShloMosaic

/-- The shapes of the precondition's operations fit together. -/
theorem pre_kernel_facts : Cert.Pre_routed_KernelIdeal.Facts := by constructor <;> decide
theorem pre_reference_facts : Cert.Pre_routed_ReferenceIdeal.Facts := by constructor <;> decide

/-- Tokens and router are real, and each token names two different experts of the 32. -/
structure Routed (X : Vec Ideal ⟨2, ![256, 128]⟩ .bf16) (W : Vec Ideal ⟨2, ![128, 32]⟩ .bf16) (I : Vec Ideal ⟨2, ![256, 2]⟩ .i32) : Prop where
  token : ∀ t k, ∃ r : ℝ, X (ix2 t k) = (r : EReal)
  router : ∀ k e, ∃ r : ℝ, W (ix2 k e) = (r : EReal)
  expert : ∀ t i, ∃ e : Fin 32, I (ix2 t i) = BitVec.ofNat 32 e.val
  differ : ∀ t, I (ix2 t 0) ≠ I (ix2 t 1)

/-- A conjunction over a finite family is 1 only if every member is. -/
theorem fold_andi_one {ι : Type} (s : Finset ι) (f : ι → BitVec 1) (h : s.fold IntOp.andi 1#1 f = 1#1) (i : ι) (hi : i ∈ s) : f i = 1#1 :=
  ((Finset.fold_op_rel_iff_and (op := IntOp.andi) (r := fun _ v : BitVec 1 => v = 1#1) (fun {_ _ _} => IntOp.andi_eq_one) (c := 1#1)).mp h).2 i hi

/-- A number whose absolute value is below +∞ is real. -/
theorem real_of_abs (x : EReal) (h : BitVec.ofBool (decide (FloatOps.absf (F := Ideal) (φ := .bf16) x < Ideal.ofBits .bf16 32640#16)) = 1#1) : ∃ r : ℝ, x = (r : EReal) := by
  have h' : max x (-x) < Ideal.ofBits .bf16 32640#16 := by
    by_contra hn
    rw [show decide (FloatOps.absf (F := Ideal) (φ := .bf16) x < Ideal.ofBits .bf16 32640#16) = false from decide_eq_false hn] at h
    exact absurd h (by decide)
  have h2 := max_lt_iff.mp (lt_of_lt_of_le h' le_top)
  refine ⟨x.toReal, (EReal.coe_toReal h2.1.ne fun hb => ?_).symm⟩
  rw [hb] at h2
  exact absurd h2.2 (by simp)

/-- A word that is at least 0 and below 32 is the word of a number below 32. -/
theorem expert_of_range (w : BitVec 32) (h : IntOp.andi (IntOp.cmpi .sge w 0#32) (IntOp.cmpi .slt w 32#32) = 1#1) : ∃ e : Fin 32, w = BitVec.ofNat 32 e.val := by
  obtain ⟨h1, h2⟩ := IntOp.andi_eq_one.mp h
  have hlt : w.toNat < 32 := by
    word_omega
  exact ⟨⟨w.toNat, hlt⟩, by simp⟩

theorem routed_of_pre (X : Vec Ideal ⟨2, ![256, 128]⟩ .bf16) (W : Vec Ideal ⟨2, ![128, 32]⟩ .bf16) (I : Vec Ideal ⟨2, ![256, 2]⟩ .i32)
    (E : Vec Ideal ⟨3, ![2, 128, 256]⟩ .bf16)
    (h : @Cert.Pre_routed_KernelIdeal.fn pre_kernel_facts Ideal _ X W I E = fun _ => 1#1) : Routed X W I := by
  have h := congrFun h ix0
  pointwise [Cert.Pre_routed_KernelIdeal.fn, Cert.Pre_routed_KernelIdeal.fn_part1] at h
  obtain ⟨h1, h2⟩ := IntOp.andi_eq_one.mp h
  obtain ⟨hx, hw⟩ := IntOp.andi_eq_one.mp h1
  obtain ⟨hi, hd⟩ := IntOp.andi_eq_one.mp h2
  refine ⟨fun t k => real_of_abs _ (fold_andi_one _ _ hx (t, k) (Finset.mem_univ _)), fun k e => real_of_abs _ (fold_andi_one _ _ hw (k, e) (Finset.mem_univ _)),
    fun t i => expert_of_range _ (fold_andi_one _ _ hi (t, i) (Finset.mem_univ _)), fun t he => ?_⟩
  have h3 : IntOp.cmpi .ne (I (ix2 t 0)) (I (ix2 t 1)) = 1#1 := fold_andi_one _ _ hd t (Finset.mem_univ _)
  rw [he] at h3
  simp [IntOp.cmpi] at h3

end Cert.Ep

end
-- ==== Proof.RefRead.lean ====
/-
# RefRead: one entry of the reference's result

When the expert numbers of token `t` are `e0` and `e1`, the entry `(t, j)` of the reference's result is the sum of the
two experts' products, each weighted by its share of the two scores.
-/
module

public import proofs.«01_k».proof.Proof.Ref
public import proofs.«01_k».proof.Proof.Routed
public import proofs.«01_k».proof.Proof.Share
public import Idealize.ShloMosaic.Lib.ReduceAll
public import Idealize.ShloMosaic.Lib.Tactic.WordOmega

@[expose] public section

set_option maxRecDepth 16384

noncomputable section

namespace Cert.Ep.Ref

open Cert.ReferenceIdeal Cert.ReferenceIdeal.Gen
open Idealize.ShloMosaic

/-! ## The two gathers at one entry -/

/-- The word of an expert number, read signed and held below 32, is the number. -/
theorem clamp_word : ∀ e : Fin 32, min (BitVec.ofNat 32 e.val).toInt.toNat 31 = e.val := by decide

/-- The entry of the softmax picked for token `t`, its row the token's and its column the expert's. -/
theorem gather_probs {α : Type} (P : S256x32.Idx → α) (idx : IVec S256x2x1 32) (t : Fin 256) (i : Fin 2) (e : Fin 32)
    (h : idx (ix3 t i 0) = BitVec.ofNat 32 e.val) :
    Host.gather gather_S256x32_S256x2x1_S256x2_n_1_0_0_1_2_11 P idx (ix2 t i) = P (ix2 t e) := by
  set d := gather_S256x32_S256x2x1_S256x2_n_1_0_0_1_2_11
  unfold Host.gather
  refine congrArg P (funext fun a => Fin.ext ?_)
  show d.start (ix2 t i) idx a + d.batchCoord (ix2 t i) a + d.offCoord (ix2 t i) a = _
  obtain rfl | rfl := (by decide : ∀ a : Fin 2, a = 0 ∨ a = 1) a
  · rw [d.start_batching _ _ _ (by decide), d.offCoord_eq_zero _ _ (by decide), Nat.zero_add, Nat.add_zero]
    rfl
  · rw [d.batchCoord_eq_zero _ _ (by decide), d.offCoord_eq_zero _ _ (by decide)]
    unfold GatherDims.start
    rw [dif_pos (by decide), show d.siIdx (ix2 t i) _ = ix3 t i 0 from funext fun b => by fin_cases b <;> rfl, h]
    exact clamp_word e

/-- The entry of the matrix of the expert picked for token `t`. -/
theorem gather_expert {α : Type} (E : S32x128x256.Idx → α) (idx : IVec S256x1 32) (t : Fin 256) (k : Fin 128) (j : Fin 256) (e : Fin 32)
    (h : idx (ix2 t 0) = BitVec.ofNat 32 e.val) :
    Host.gather gather_S32x128x256_S256x1_S256x128x256_12_0_n_n_0_1_1128256 E idx (ix3 t k j) = E (ix3 e k j) := by
  set d := gather_S32x128x256_S256x1_S256x128x256_12_0_n_n_0_1_1128256
  unfold Host.gather
  refine congrArg E (funext fun a => Fin.ext ?_)
  show d.start (ix3 t k j) idx a + d.batchCoord (ix3 t k j) a + d.offCoord (ix3 t k j) a = _
  rw [d.batchCoord_eq_zero _ _ (by exact List.not_mem_nil), Nat.add_zero]
  obtain rfl | rfl | rfl := (by decide : ∀ a : Fin 3, a = 0 ∨ a = 1 ∨ a = 2) a
  · rw [d.offCoord_eq_zero _ _ (by decide), Nat.add_zero]
    unfold GatherDims.start
    rw [dif_pos (by decide), show d.siIdx (ix3 t k j) _ = ix2 t 0 from funext fun b => by fin_cases b <;> rfl, h]
    exact clamp_word e
  · rw [show d.start (ix3 t k j) idx 1 = 0 from dif_neg (by decide), Nat.zero_add]
    rfl
  · rw [show d.start (ix3 t k j) idx 2 = 0 from dif_neg (by decide), Nat.zero_add]
    rfl

/-! ## The expert numbers -/

/-- An expert number is not negative, so it is taken as it is. -/
theorem wrap_word : ∀ e : Fin 32, Scalar.select (IntOp.cmpi .slt (BitVec.ofNat 32 e.val) 0#32) (Scalar.addi (BitVec.ofNat 32 e.val) 32#32) (BitVec.ofNat 32 e.val)
    = BitVec.ofNat 32 e.val := by decide

theorem places_apply (I : IVec S256x2 32) (t : Fin 256) (i : Fin 2) (e : Fin 32) (h : I (ix2 t i) = BitVec.ofNat 32 e.val) :
    places I (ix3 t i 0) = BitVec.ofNat 32 e.val := by
  pointwise [places]
  rw [h]
  exact wrap_word e

theorem wrapped_col0 (I : IVec S256x2 32) (t : Fin 256) (e : Fin 32) (h : I (ix2 t 0) = BitVec.ofNat 32 e.val) :
    wrapped (col0 I) (ix2 t 0) = BitVec.ofNat 32 e.val := by
  pointwise [wrapped, col0]
  rw [h]
  exact wrap_word e

theorem wrapped_col1 (I : IVec S256x2 32) (t : Fin 256) (e : Fin 32) (h : I (ix2 t 1) = BitVec.ofNat 32 e.val) :
    wrapped (col1 I) (ix2 t 0) = BitVec.ofNat 32 e.val := by
  pointwise [wrapped, col1]
  rw [h]
  exact wrap_word e

/-- It names a column of the softmax. -/
theorem range_word : ∀ e : Fin 32, IntOp.andi (IntOp.cmpi .sge (BitVec.ofNat 32 e.val) 0#32) (IntOp.cmpi .sle (BitVec.ofNat 32 e.val) 31#32) = 1#1 := by decide

theorem inRange_apply (I : IVec S256x2 32) (h : ∀ t i, ∃ e : Fin 32, I (ix2 t i) = BitVec.ofNat 32 e.val) (t : Fin 256) (i : Fin 2) :
    inRange I (ix2 t i) = 1#1 := by
  unfold inRange
  refine Host.reduce_andi_one _ _ _ _ _ rfl fun q => ?_
  obtain ⟨t', i', z, rfl⟩ : ∃ (t' : Fin 256) (i' : Fin 2) (z : Fin 1), q = ix3 t' i' z := ⟨q 0, q 1, q 2, eq_ix3 q⟩
  obtain rfl : z = 0 := Subsingleton.elim _ _
  obtain ⟨e, he⟩ := h t' i'
  pointwise
  rw [places_apply I t' i' e he]
  exact range_word e

/-! ## The softmax of a token -/

section
variable (X : Vec Ideal S256x128 .bf16) (W : Vec Ideal S128x32 .bf16) (I : IVec S256x2 32) (E : Vec Ideal S32x128x256 .bf16)

theorem scores_apply (t : Fin 256) (e : Fin 32) : scores X W (ix2 t e) = ∑ k, X (ix2 t k) * W (ix2 k e) := by
  pointwise [scores]

/-- Where the scores are real numbers `σ`, the softmax is `exp (σ e - M) / S` for a real `M` and a positive real `S`. -/
theorem probs_real (t : Fin 256) (σ : Fin 32 → ℝ) (h : ∀ e, ∑ k, X (ix2 t k) * W (ix2 k e) = (σ e : EReal)) :
    ∃ M S : ℝ, 0 < S ∧ ∀ e, probs X W (ix2 t e) = ((Real.exp (σ e - M) / S : ℝ) : EReal) := by
  obtain ⟨M, hM⟩ := max_real σ
  have hexp : ∀ e, exps X W (ix2 t e) = (Real.exp (σ e - M) : EReal) := fun e => by
    pointwise [exps]
    simp only [scores_apply, h]
    rw [show Ideal.ofBits FTy.f32 4286578688#32 = ⊥ by simp [Ideal.ofBits, Ideal.ieee], hM, ← EReal.coe_sub, Ideal.exp_coe]
  obtain ⟨S, hS, hsum⟩ := sum_pos_real (fun e : Fin 32 => Real.exp (σ e - M)) fun e => Real.exp_pos _
  refine ⟨M, S, hS, fun e => ?_⟩
  pointwise [probs]
  simp only [hexp]
  rw [hsum, div_real _ _ hS.ne']

theorem taken_apply (h : ∀ t i, ∃ e : Fin 32, I (ix2 t i) = BitVec.ofNat 32 e.val) (t : Fin 256) (i : Fin 2) (e : Fin 32)
    (he : I (ix2 t i) = BitVec.ofNat 32 e.val) : taken X W I (ix2 t i) = probs X W (ix2 t e) := by
  pointwise [taken]
  rw [inRange_apply I h t i, gather_probs _ _ t i e (places_apply I t i e he)]
  rfl

theorem y_apply (v : IVec S256 32) (t j : Fin 256) (e : Fin 32) (h : wrapped v (ix2 t 0) = BitVec.ofNat 32 e.val) :
    y X E v (ix2 t j) = ∑ k, X (ix2 t k) * E (ix3 e k j) := by
  pointwise [y]
  exact Finset.sum_congr rfl fun k _ => by rw [gather_expert _ _ t k j e h]; rfl

/-- One entry of the reference's result. -/
theorem out_apply (hI : ∀ t i, ∃ e : Fin 32, I (ix2 t i) = BitVec.ofNat 32 e.val) (t j : Fin 256) (e0 e1 : Fin 32)
    (h0 : I (ix2 t 0) = BitVec.ofNat 32 e0.val) (h1 : I (ix2 t 1) = BitVec.ofNat 32 e1.val) (σ : Fin 32 → ℝ)
    (hσ : ∀ e, ∑ k, X (ix2 t k) * W (ix2 k e) = (σ e : EReal)) :
    out X W I E (ix2 t j) = (share (σ e0) (σ e1) : EReal) * (∑ k, X (ix2 t k) * E (ix3 e0 k j))
      + (share (σ e1) (σ e0) : EReal) * (∑ k, X (ix2 t k) * E (ix3 e1 k j)) := by
  obtain ⟨M, S, hS, hp⟩ := probs_real X W t σ hσ
  pointwise [out, g0, g1]
  rw [taken_apply X W I hI t 0 e0 h0, taken_apply X W I hI t 1 e1 h1, hp, hp, share_softmax_left _ _ _ _ hS, share_softmax_right _ _ _ _ hS,
    y_apply X E _ t j e0 (wrapped_col0 I t e0 h0), y_apply X E _ t j e1 (wrapped_col1 I t e1 h1)]

end

end Cert.Ep.Ref

end
-- ==== Proof.Schedule.lean ====
/-
# Schedule: who raises which semaphore, by how much, and what comes with it

Every cell has one round. The barrier cell of a device has six duties of one unit: the partner under mask `m` pays duty
`m`, and with it hands over the slots of its receive buffer that this device's transfers with mask `m` will fill. A
send cell has one duty, paid by the device's own transfer leaving: it gives back the share of the source buffer that the
transfer read. A receive cell has one duty, paid by the partner's transfer arriving: it gives the filled slot of the
receive buffer.

A device may wait at a cell while it owes signals at higher levels only: the barrier is at level 1, the receive cells
of phase 0 at level 2, those of phase 1 at level 3, and the others at level 0.
-/
module

public import proofs.«01_k».proof.Proof.Values

@[expose] public section

set_option maxRecDepth 16384

noncomputable section

namespace Cert.Ep

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the transfers' -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The cell of a kind on a device. -/
abbrev cell (ck : Dev nD × Kd) : GSem nD τ sig := ((ck.1 : Thread nD τ), csem ck.2)
abbrev barCell (c : Dev nD) : GSem nD τ sig := cell (c, none)
abbrev sendCell (c : Dev nD) (k : Slot) : GSem nD τ sig := cell (c, some (false, k))
abbrev recvCell (c : Dev nD) (k : Slot) : GSem nD τ sig := cell (c, some (true, k))

theorem cell_injective : Function.Injective (cell : Dev nD × Kd → GSem nD τ sig) := by
  rintro ⟨c, k⟩ ⟨c', k'⟩ h
  have h1 : c = c' := congrArg (fun g : GSem nD τ sig => g.1.1) h
  have h2 : k = k' := csem_inj (congrArg Prod.snd h)
  rw [h1, h2]

/-! ## What the buffers hold -/

/-- A slot of the receive buffer at contents `f`; -/
def dstPts (c : Dev nD) (k : Slot) (f : Buf (Elt F) ((dstM k).view.loc (c : Thread nD τ))) : sProp 𝕄 :=
  (dstM k).view.loc (c : Thread nD τ) ↦[(dstM k).view.set]{fullShare} f
/-- a source buffer at contents `f`. -/
def srcPts (c : Dev nD) (s : Src) (f : Buf (Elt F) ((srcM s).view.loc (c : Thread nD τ))) : sProp 𝕄 :=
  (srcM s).view.loc (c : Thread nD τ) ↦[(srcM s).view.set]{fullShare} f

/-- The share of a source buffer that the transfer at each position reads. -/
def shr (j : Fin 3) : PosShare TreeShare := match j with
  | 0 => fullShare.left
  | 1 => fullShare.right.left
  | 2 => fullShare.right.right

variable (ins : Dev nD → Ins F)

/-- The share of its source that slot `k` reads, holding what is sent; -/
def srcShr (c : Dev nD) (k : Slot) : sProp 𝕄 := owns (c : Thread nD τ) (srcM (srcOf k)) (shr k.2.2) (blk ins c (srcOf k))
/-- the slot of the receive buffer, filled. -/
def dstFull (c : Dev nD) (k : Slot) : sProp 𝕄 := owns (c : Thread nD τ) (dstM k) fullShare (inb ins c k)

/-- What the partner under mask `m` hands over at the barrier of `c`. -/
def barPay (c : Dev nD) (m : Fin 6) : sProp 𝕄 :=
  bigSep Finset.univ fun k : Slot => if msk k = m then iprop(∃ f, dstPts (F := F) (par m c) k f) else iprop(emp)

instance dstPts_storable (c : Dev nD) (k : Slot) (f) : BI.Storable (upEmb : UEmb _ 𝕄) (dstPts (F := F) c k f) := by unfold dstPts; infer_instance
instance srcShr_storable (c : Dev nD) (k : Slot) : BI.Storable (upEmb : UEmb _ 𝕄) (srcShr ins c k) := by unfold srcShr; infer_instance
instance dstFull_storable (c : Dev nD) (k : Slot) : BI.Storable (upEmb : UEmb _ 𝕄) (dstFull ins c k) := by unfold dstFull; infer_instance
instance barPay_storable (c : Dev nD) (m : Fin 6) : BI.Storable (upEmb : UEmb _ 𝕄) (barPay (F := F) c m) := by
  unfold barPay
  have (k : Slot) : BI.Storable (upEmb : UEmb _ 𝕄) (if msk k = m then iprop(∃ f, dstPts (F := F) (par m c) k f) else iprop(emp)) := by
    split <;> infer_instance
  infer_instance

/-! ## The schedule -/

def Rd : Rounds.Schedule (GSem nD τ sig) (Fin 6) 𝕄 where
  duties g r := if r = 0 ∧ g.1.2 = .tc then (match kindOf g.2 with | some none => Finset.univ | some (some _) => {0} | none => ∅) else ∅
  unitless _ := False
  amount g _ _ := match kindOf g.2 with | some none => 1 | _ => N
  payload g _ d := match kindOf g.2 with
    | some none => barPay g.1.1 d
    | some (some (false, k)) => srcShr ins g.1.1 k
    | some (some (true, k)) => dstFull ins g.1.1 k
    | none => iprop(emp)
  amount_pos g _ _ _ := by
    split
    · exact Nat.one_pos
    · exact N_pos

instance Rd_payload_storable (g : GSem nD τ sig) (r : ℕ) (d : Fin 6) : BI.Storable (upEmb : UEmb _ 𝕄) ((Rd ins).payload g r d) := by
  show BI.Storable upEmb (match kindOf g.2 with
    | some none => barPay g.1.1 d | some (some (false, k)) => srcShr ins g.1.1 k | some (some (true, k)) => dstFull ins g.1.1 k | none => iprop(emp))
  split <;> infer_instance

section Sched
variable (c : Dev nD) (k : Slot)

theorem duties_bar : (Rd ins).duties (barCell c) 0 = Finset.univ := by dsimp only [Rd]; rw [if_pos ⟨rfl, rfl⟩, kindOf_csem]
theorem duties_send : (Rd ins).duties (sendCell c k) 0 = {0} := by dsimp only [Rd]; rw [if_pos ⟨rfl, rfl⟩, kindOf_csem]
theorem duties_recv : (Rd ins).duties (recvCell c k) 0 = {0} := by dsimp only [Rd]; rw [if_pos ⟨rfl, rfl⟩, kindOf_csem]
theorem duties_later (g : GSem nD τ sig) : ∀ r, 1 ≤ r → (Rd ins).duties g r = ∅ :=
  fun r hr => by dsimp only [Rd]; exact if_neg fun h => by omega

theorem amount_bar (d : Fin 6) : (Rd ins).amount (barCell c) 0 d = 1 := by dsimp only [Rd]; rw [kindOf_csem]
theorem amount_send (d : Fin 6) : (Rd ins).amount (sendCell c k) 0 d = N := by dsimp only [Rd]; rw [kindOf_csem]
theorem amount_recv (d : Fin 6) : (Rd ins).amount (recvCell c k) 0 d = N := by dsimp only [Rd]; rw [kindOf_csem]

theorem expect_bar : (Rd ins).expect (barCell c) 0 = 6 := by
  unfold Schedule.expect Schedule.amountOf
  rw [duties_bar, Finset.sum_congr rfl fun d _ => amount_bar ins c d, Finset.sum_const, Finset.card_univ, Fintype.card_fin, smul_eq_mul]
theorem expect_send : (Rd ins).expect (sendCell c k) 0 = N := by
  unfold Schedule.expect Schedule.amountOf; rw [duties_send, Finset.sum_singleton, amount_send]
theorem expect_recv : (Rd ins).expect (recvCell c k) 0 = N := by
  unfold Schedule.expect Schedule.amountOf; rw [duties_recv, Finset.sum_singleton, amount_recv]

theorem payload_bar (d : Fin 6) : (Rd ins).payload (barCell c) 0 d = barPay c d := by dsimp only [Rd]; rw [kindOf_csem]
theorem payload_send (d : Fin 6) : (Rd ins).payload (sendCell c k) 0 d = srcShr ins c k := by dsimp only [Rd]; rw [kindOf_csem]
theorem payload_recv (d : Fin 6) : (Rd ins).payload (recvCell c k) 0 d = dstFull ins c k := by dsimp only [Rd]; rw [kindOf_csem]

theorem rest_send : bigSep ((Rd ins).duties (sendCell c k) 0 \ ∅) (fun d => (Rd ins).payload (sendCell c k) 0 d) = srcShr ins c k := by
  rw [Finset.sdiff_empty, duties_send, bigSep_singleton, payload_send]
theorem rest_recv : bigSep ((Rd ins).duties (recvCell c k) 0 \ ∅) (fun d => (Rd ins).payload (recvCell c k) 0 d) = dstFull ins c k := by
  rw [Finset.sdiff_empty, duties_recv, bigSep_singleton, payload_recv]

/-- All that the partners hand over at the barrier of `c`: the slots that the transfers of `c` fill. -/
theorem rest_bar : bigSep ((Rd ins).duties (barCell c) 0 \ ∅) (fun d => (Rd ins).payload (barCell c) 0 d)
    = bigSep Finset.univ fun k : Slot => iprop(∃ f, dstPts (F := F) (peer k c) k f) := by
  rw [Finset.sdiff_empty, duties_bar, bigSep_congr fun d _ => payload_bar ins c d]
  unfold barPay
  rw [bigSep_univ_comm]
  refine bigSep_congr fun k _ => ?_
  have h := bigSep_univ_at (fun m : Fin 6 => (if msk k = m then iprop(∃ f, dstPts (F := F) (par m c) k f) else iprop(emp) : sProp 𝕄)) (msk k)
  rw [h, if_pos rfl, bigSep_congr (Ψ := fun _ => (iprop(emp) : sProp 𝕄)) fun m hm => if_neg fun h => (Finset.mem_erase.mp hm).1 h.symm]
  exact (congrArg (fun P : sProp 𝕄 => iprop((∃ f, dstPts (F := F) (peer k c) k f) ∗ P)) (bigSep_emp_const _)).trans
    (BI.equiv_iff.mp Idealize.SL.BI.sep_emp)

end Sched

/-! ## What a device owes -/

/-- One step of a sum over what is left in an order. -/
theorem sum_step {ι A : Type} [Fintype ι] [DecidableEq ι] [AddCommMonoid A] (ord : ι → ℕ) (hinj : ∀ a b, ord a = ord b → a = b) (f : ι → A) {n : ℕ} {i : ι}
    (hi : ord i = n) : (∑ j, if n ≤ ord j then f j else 0) = (∑ j, if n + 1 ≤ ord j then f j else 0) + f i := by
  rw [← Finset.sum_erase_add _ _ (Finset.mem_univ i), if_pos hi.ge]
  congr 1
  rw [← Finset.sum_erase_add Finset.univ (fun j => if n + 1 ≤ ord j then f j else 0) (Finset.mem_univ i), if_neg (by omega), add_zero]
  refine Finset.sum_congr rfl fun j hj => ?_
  have hne : ord j ≠ n := fun h => (Finset.mem_erase.mp hj).1 (hinj j i (h.trans hi.symm))
  by_cases h : n ≤ ord j
  · rw [if_pos h, if_pos (by omega)]
  · rw [if_neg h, if_neg (by omega)]

/-- What `c` owes the receive cells of its partners once `s` transfers are started, -/
def Osend (c : Dev nD) (s : ℕ) : CellTallies nD τ sig Unit := ∑ k : Slot, if s ≤ sendOrd k then tallyAt (recvCell (peer k c) k) () N else 0
/-- and what it owes their barrier cells once `n` signals are given. -/
def Obar (c : Dev nD) (n : ℕ) : CellTallies nD τ sig Unit := ∑ m : Fin 6, if n ≤ m.val then tallyAt (barCell (par m c)) () 1 else 0
/-- What it owes at the start. -/
def O₀ (c : Dev nD) : CellTallies nD τ sig Unit := Osend c 0 + Obar c 0

theorem Osend_step (c : Dev nD) {s : ℕ} {k : Slot} (h : sendOrd k = s) : Osend c s = Osend c (s + 1) + tallyAt (recvCell (peer k c) k) () N :=
  sum_step sendOrd sendOrd_inj _ h
theorem Obar_step (c : Dev nD) (m : Fin 6) : Obar c m.val = Obar c (m.val + 1) + tallyAt (barCell (par m c)) () 1 :=
  sum_step (fun m : Fin 6 => m.val) (fun _ _ h => Fin.ext h) _ rfl
theorem Osend_last (c : Dev nD) : Osend c 24 = 0 := Finset.sum_eq_zero fun k _ => if_neg (by have := sendOrd_lt k; omega)
theorem Obar_last (c : Dev nD) : Obar c 6 = 0 := Finset.sum_eq_zero fun m _ => if_neg (by omega)

theorem sum_tally_pos {ι : Type} [Fintype ι] (p : ι → Prop) [DecidablePred p] (t : ι → GSem nD τ sig) (n : ℕ) {g : GSem nD τ sig} {u : Unit}
    (h : 0 < (∑ i, if p i then (tallyAt (t i) () n : CellTallies nD τ sig Unit) else 0) g u) : ∃ i, p i ∧ g = t i := by
  by_contra hn
  have hz : (∑ i, if p i then (tallyAt (t i) () n : CellTallies nD τ sig Unit) else 0) g u = 0 := by
    rw [Finset.sum_apply, Finsupp.finset_sum_apply]
    refine Finset.sum_eq_zero fun i _ => ?_
    by_cases hp : p i
    · rw [if_pos hp, tallyAt_apply, if_neg fun h' => hn ⟨i, hp, h'.1⟩]
    · rw [if_neg hp]; rfl
  omega

theorem Osend_pos {c : Dev nD} {s : ℕ} {g : GSem nD τ sig} {u : Unit} (h : 0 < Osend c s g u) : ∃ k, s ≤ sendOrd k ∧ g = recvCell (peer k c) k :=
  sum_tally_pos _ _ _ h
theorem Obar_pos {c : Dev nD} {n : ℕ} {g : GSem nD τ sig} {u : Unit} (h : 0 < Obar c n g u) : ∃ m : Fin 6, n ≤ m.val ∧ g = barCell (par m c) :=
  sum_tally_pos _ _ _ h
theorem O₀_pos {c : Dev nD} {g : GSem nD τ sig} {u : Unit} (h : 0 < O₀ c g u) : (∃ k, g = recvCell (peer k c) k) ∨ ∃ m : Fin 6, g = barCell (par m c) := by
  unfold O₀ at h
  rw [Pi.add_apply, Finsupp.add_apply] at h
  rcases Nat.pos_of_ne_zero (n := Osend c 0 g u) |> fun f => (Nat.eq_zero_or_pos (Osend c 0 g u)) with hz | hp
  · obtain ⟨m, _, hm⟩ := Obar_pos (c := c) (n := 0) (g := g) (u := u) (by omega); exact .inr ⟨m, hm⟩
  · obtain ⟨k, _, hk⟩ := Osend_pos hp; exact .inl ⟨k, hk⟩

/-! ## Levels -/

def L (g : GSem nD τ sig) : Finset Unit := if g.1.2 = .tc then {()} else ∅
def lv (g : GSem nD τ sig) (_ : Unit) : ℕ := match kindOf g.2 with
  | some none => 1
  | some (some (true, k)) => 2 + k.2.1.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [kindOf_csem]
theorem lv_send (c : Dev nD) (k : Slot) (u : Unit) : lv (sendCell c k) u = 0 := by dsimp only [lv]; rw [kindOf_csem]
theorem lv_recv (c : Dev nD) (k : Slot) (u : Unit) : lv (recvCell c k) u = 2 + k.2.1.val := by dsimp only [lv]; rw [kindOf_csem]

/-- A device may wait at a semaphore while all that it owes is at a higher level. -/
theorem mayWait_of (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- At the barrier a device owes receive cells only; -/
theorem mayWait_bar (c : Dev nD) : (levAts L lv : sProp 𝕄) ⊢ MayWait (c : Thread nD τ) (.reg barS) () (Osend c 0) :=
  mayWait_of c _ _ fun g u hg => by
    obtain ⟨k, _, rfl⟩ := Osend_pos hg
    exact ⟨rfl, by rw [show lv ((c : Thread nD τ), .reg barS) () = 1 from lv_bar c (), lv_recv]; omega⟩

/-- at a receive cell of phase 0, receive cells of phase 1 only, at one of phase 1 none. -/
theorem mayWait_recv (c : Dev nD) (k : Slot) (s : ℕ) (h : ∀ k', s ≤ sendOrd k' → k.2.1.val < k'.2.1.val) :
    (levAts L lv : sProp 𝕄) ⊢ MayWait (c : Thread nD τ) (.dma (recvSem k)) () (Osend c s) :=
  mayWait_of c _ _ fun g u hg => by
    obtain ⟨k', hk', rfl⟩ := Osend_pos hg
    exact ⟨rfl, by rw [show lv ((c : Thread nD τ), .dma (recvSem k)) () = _ from lv_recv c k (), lv_recv]; have := h k' hk'; omega⟩

/-- A semaphore at level 0 may be waited at while a device owes anything that it does at the start. -/
theorem mayWait_low (c : Dev nD) (sm : SemLoc sig) (h : lv ((c : Thread nD τ), sm) () = 0) (O : CellTallies nD τ sig Unit) (hO : O = O₀ c ∨ O = 0) :
    (levAts L lv : sProp 𝕄) ⊢ MayWait (c : Thread nD τ) sm () O := by
  refine mayWait_of c _ _ fun g u hg => ?_
  rw [h]
  rcases hO with rfl | rfl
  · rcases O₀_pos hg with ⟨k, rfl⟩ | ⟨m, rfl⟩
    · exact ⟨rfl, by rw [lv_recv]; omega⟩
    · exact ⟨rfl, by rw [lv_bar]; omega⟩
  · exact absurd hg (Nat.lt_irrefl 0)

end Cert.Ep

end
-- ==== Proof.State.lean ====
/-
# State: what a device holds between two operations of its body

The state counts the operations done: `l` source buffers filled, `s` transfers started, `w` own transfers waited for,
`r` incoming transfers waited for. Each lemma runs one operation of the body at the head of a program and moves one
count.
-/
module

public import proofs.«01_k».proof.Proof.Schedule
public import Idealize.ShloMosaic.Lib.MemrefSat
public import Idealize.ShloMosaic.Lib.VecWindow

@[expose] public section

set_option maxRecDepth 16384

noncomputable section

namespace Cert.Ep

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- That a program run by device `c` ends in `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (ins : Dev nD → Ins F) (K : Dev nD × Kd → ℕ) (c : Dev nD)

/-! ## The records: what every device may use as often as it likes -/

/-- Every cell's invariant, that every cell has reached its round, and the levels. -/
def records : sProp 𝕄 :=
  iprop((bigSep Finset.univ fun ck : Dev nD × Kd => cellInv ER (Rd ins) (K ck) (cell ck))
    ∗ (bigSep Finset.univ fun ck : Dev nD × Kd => reached ER (cell ck) 0) ∗ levAts L lv)

instance records_persistent : BI.Persistent (records ins K) := by unfold records; infer_instance

theorem inv_at (ck : Dev nD × Kd) : records ins K ⊢ cellInv ER (Rd ins) (K ck) (cell ck) := by
  have h : (bigSep Finset.univ fun ck : Dev nD × Kd => cellInv ER (Rd ins) (K ck) (cell ck) : sProp 𝕄) ⊢ cellInv ER (Rd ins) (K ck) (cell ck) :=
    bigSep_elim (Finset.mem_univ ck)
  unfold records; iintro ⟨H, -, -⟩
  iapply h; iexact H
theorem reached_at (ck : Dev nD × Kd) : records ins K ⊢ reached ER (cell ck) 0 := by
  have h : (bigSep Finset.univ fun ck : Dev nD × Kd => reached ER (cell ck) 0 : sProp 𝕄) ⊢ reached ER (cell ck) 0 := bigSep_elim (Finset.mem_univ ck)
  unfold records; iintro ⟨-, H, -⟩
  iapply h; iexact H
theorem lev_at : records ins K ⊢ levAts L lv := by
  unfold records; iintro ⟨-, -, H⟩; iexact H

/-! ## The state -/

/-- The tokens with which slot `k` is sent. -/
def sendToks (k : Slot) : sProp 𝕄 :=
  iprop(dutyTok ER (sendCell c k) 0 0 ∗ dutyTok ER (recvCell (peer k c) k) 0 0 ∗ atPos ER (sendCell c k) 0 ∅ 0)

/-- The sending side of slot `k`: before it is started, while it is under way, and after the wait for it. -/
def sndAt (s w : ℕ) (k : Slot) : sProp 𝕄 :=
  if sendOrd k < s then
    (if drainOrd k < w then semVal (sendCell c k) 0 else iprop(cred (tallyAt (sendCell c k) () N) ∗ atPos ER (sendCell c k) 0 ∅ 0))
  else iprop(sendToks c k ∗ ∃ f, dstPts (F := F) (peer k c) k f)

/-- The share of the source buffer that slot `k` reads, unless it is under way. -/
def shAt (s w : ℕ) (k : Slot) : sProp 𝕄 := if s ≤ sendOrd k ∨ drainOrd k < w then srcShr ins c k else iprop(emp)

/-- A source buffer: at any contents before it is filled, then in three shares. -/
def bufAt (l s w : ℕ) (b : Src) : sProp 𝕄 :=
  if pos b < l then bigSep Finset.univ fun j : Fin 3 => shAt ins c s w (b.1, b.2, j) else iprop(∃ f, srcPts (F := F) c b f)

/-- What the wait for the incoming transfer of slot `k` needs. -/
def recvToks (k : Slot) : sProp 𝕄 := iprop(cred (tallyAt (recvCell c k) () N) ∗ atPos ER (recvCell c k) 0 ∅ 0)

/-- The receiving side of slot `k`. -/
def rcvAt (r : ℕ) (k : Slot) : sProp 𝕄 :=
  if recvOrd k < r then iprop(semVal (recvCell c k) 0 ∗ dstFull ins c k) else recvToks c k

/-- What device `c` holds after the barrier. -/
def St (l s w r : ℕ) : sProp 𝕄 :=
  iprop(records ins K ∗ semVal (barCell c) 0 ∗ (∃ W, owes (c : Thread nD τ) (Osend c s) W)
    ∗ bigSep Finset.univ (sndAt c s w) ∗ bigSep Finset.univ (bufAt ins c l s w) ∗ bigSep Finset.univ (rcvAt ins c r))

/-! ## The operations -/

section Steps

variable {ins K c}

theorem shAt_congr {s s' w w' : ℕ} {k : Slot} (h : (s ≤ sendOrd k ∨ drainOrd k < w) ↔ (s' ≤ sendOrd k ∨ drainOrd k < w')) :
    shAt ins c s w k = shAt ins c s' w' k := by
  unfold shAt; simp only [h]

/-- The share of slot `k` taken out of the source buffers, to be put back in another state. -/
theorem buf_update {l s s' w w' : ℕ} (k : Slot) (hl : pos (srcOf k) < l)
    (h : ∀ k', k' ≠ k → ((s' ≤ sendOrd k' ∨ drainOrd k' < w') ↔ (s ≤ sendOrd k' ∨ drainOrd k' < w))) :
    bigSep Finset.univ (bufAt ins c l s w) ⊢ iprop(shAt ins c s w k ∗ (shAt ins c s' w' k -∗ bigSep Finset.univ (bufAt ins c l s' w'))) := by
  have h1 := bigSep_univ_update (Φ := bufAt ins c l s w) (Ψ := bufAt ins c l s' w') (srcOf k) (fun b hb => by
    unfold bufAt
    split
    · refine bigSep_congr fun j _ => shAt_congr (h _ fun he => hb ?_)
      rw [← he]; rfl
    · rfl)
  have h2 := bigSep_univ_update (Φ := fun j : Fin 3 => shAt ins c s w (k.1, k.2.1, j)) (Ψ := fun j : Fin 3 => shAt ins c s' w' (k.1, k.2.1, j)) k.2.2
    (fun j hj => shAt_congr (h _ fun he => hj (by rw [← he])))
  have e (s w : ℕ) : bufAt ins c l s w (srcOf k) = bigSep Finset.univ fun j : Fin 3 => shAt ins c s w (k.1, k.2.1, j) := by
    unfold bufAt; rw [if_pos hl]; rfl
  rw [e, e] at h1
  iintro H
  ihave H1 := h1 $$ H
  icases H1 with ⟨Hb, Hback⟩
  ihave H2 := h2 $$ Hb
  icases H2 with ⟨Hk, Hback'⟩
  isplitl [Hk]; · iexact Hk
  iintro Hk
  iapply Hback
  iapply Hback'
  iexact Hk

/-- Starting the transfer of slot `k`. -/
theorem step_send {k : Slot} {l s r : ℕ} (hs : sendOrd k = s) (hl : s < 3 * l) {n : Dev nD} (hn : n = peer k c)
    {src : Memref sig .tc .vmem S64x256 .bf16} {dst : Memref sig (Dev.tc n : Thread nD τ).2.kind .vmem S64x256 .bf16} {sS rS : DmaSem sig}
    (hsrc : src = srcM (srcOf k)) (hdst : dst = dstM k) (hsS : sS = sendSem k) (hrS : rS = recvSem k)
    {hsc : dst.view.ref.isScScratch = false} {hx : src.view.WordExact} {hx' : dst.view.WordExact}
    {hsem : DmaTarget.Typed .vmem (.dma rS) (.remote (Dev.tc n : Thread nD τ) dst (.dma sS) hsc)}
    {α : Type} {Q : α → sProp 𝕄} {kk : PUnit → Prog (TpuEff nD τ sig (Elt F) Λ₀ .tc) α} :
    St ins K c l s 0 r ⊢ iprop((St ins K c l (s + 1) 0 r -∗ wpc c (kk ⟨⟩) Q)
      -∗ wpc c (.op (.enqueueDma src (.remote (Dev.tc n : Thread nD τ) dst (.dma sS) hsc) (.dma rS) hx hx' hsem) kk) Q) := by
  subst hn; subst hsrc; subst hdst; subst hsS; subst hrS
  have hne : ∀ k', k' ≠ k → sendOrd k' ≠ s := fun k' h h' => h (sendOrd_inj _ _ (h'.trans hs.symm))
  have h1 := bigSep_univ_update (Φ := sndAt (F := F) c s 0) (Ψ := sndAt (F := F) c (s + 1) 0) k (fun k' hk' => by
    have := hne k' hk'
    unfold sndAt
    by_cases h : sendOrd k' < s
    · rw [if_pos h, if_pos (by omega)]
    · rw [if_neg h, if_neg (by omega)])
  have h2 := buf_update (ins := ins) (c := c) (l := l) (s := s) (s' := s + 1) (w := 0) (w' := 0) k (by unfold sendOrd at hs; omega) (fun k' hk' => by have := hne k' hk'; omega)
  have e1 : sndAt (F := F) c s 0 k = iprop(sendToks c k ∗ ∃ f, dstPts (F := F) (peer k c) k f) := by unfold sndAt; rw [if_neg (by omega)]
  have e2 : sndAt (F := F) c (s + 1) 0 k = iprop(cred (tallyAt (sendCell c k) () N) ∗ atPos ER (sendCell c k) 0 ∅ 0) := by
    unfold sndAt; rw [if_pos (by omega), if_neg (by omega)]
  have e3 : shAt ins c s 0 k = srcShr ins c k := by unfold shAt; rw [if_pos (.inl hs.ge)]
  have e4 : shAt ins c (s + 1) 0 k = iprop(emp) := by unfold shAt; rw [if_neg (by omega)]
  rw [e1, e2] at h1
  rw [e3, e4] at h2
  unfold St
  iintro ⟨#HR, Hb, ⟨%W, HO⟩, Hsnd, Hbuf, Hrcv⟩ Hk
  ihave Hs := h1 $$ Hsnd
  icases Hs with ⟨⟨Htok, ⟨%fd, Hdst⟩⟩, Hsnd⟩
  ihave Hb' := h2 $$ Hbuf
  icases Hb' with ⟨Hsrc, Hbuf⟩
  unfold sendToks srcShr owns
  icases Htok with ⟨HtS, HtR, Hat⟩
  icases Hsrc with ⟨%fs, %hfs, Hsrc⟩
  iapply (Rounds.wp_send_pointsTo 𝒱₀ ER (Rd ins) (c : Thread nD τ) none (κ₁ := K (c, some (false, k))) (κ₂ := K (peer k c, some (true, k)))
    (r₁ := 0) (r₂ := 0) (d₁ := 0) (d₂ := 0) (fs := fs) (fd := fd) (q := shr k.2.2) (src := srcM (srcOf k)) (dst := dstM k) (c' := (Dev.tc (peer k c) : Thread nD τ))
    (sS := .dma (sendSem k)) (sem := .dma (recvSem k))
    (by rw [show (((c : Thread nD τ), SemLoc.dma (sendSem k)) : GSem nD τ sig) = sendCell c k from rfl, duties_send]; exact Finset.mem_singleton_self _)
    (by rw [show (((Dev.tc (peer k c) : Thread nD τ), SemLoc.dma (recvSem k)) : GSem nD τ sig) = recvCell (peer k c) k from rfl, duties_recv]; exact Finset.mem_singleton_self _)
    () () N rfl (amount_send ins c k 0) (amount_recv ins (peer k c) k 0) (Osend c (s + 1)) (Osend_step c hs) (W := W)
    (by
      rw [show (((c : Thread nD τ), SemLoc.dma (sendSem k)) : GSem nD τ sig) = sendCell c k from rfl, payload_send]
      unfold srcShr owns
      iintro H; iexists fs; isplitr; · (ipureintro; exact hfs)
      iexact H)
    (by
      rw [show (((Dev.tc (peer k c) : Thread nD τ), SemLoc.dma (recvSem k)) : GSem nD τ sig) = recvCell (peer k c) k from rfl, payload_recv]
      unfold dstFull owns
      iintro H; iexists _; isplitr; swap; · iexact H
      ipureintro
      rw [View.read_write_univ, hfs, inb, peer_peer])) $$ [HtS HtR HO Hsrc Hdst]
  · isplitr; · iapply (inv_at ins K (c, some (false, k))); iexact HR
    isplitr; · iapply (inv_at ins K (peer k c, some (true, k))); iexact HR
    isplitl [Hsrc]; · iexact Hsrc
    isplitl [Hdst]; · unfold dstPts; iexact Hdst
    isplitl [HO]; · iexact HO
    isplitl [HtS]; · iexact HtS
    isplitr; · iapply (reached_at ins K (c, some (false, k))); iexact HR
    isplitl [HtR]; · iexact HtR
    iapply (reached_at ins K (peer k c, some (true, k))); iexact HR
  iintro ⟨Hcr, HO⟩
  iapply Hk
  isplitr; · iexact HR
  isplitl [Hb]; · iexact Hb
  isplitl [HO]; · iexists W; iexact HO
  isplitl [Hsnd Hcr Hat]
  · iapply Hsnd
    isplitl [Hcr]; · iexact Hcr
    iexact Hat
  isplitl [Hbuf]
  · iapply Hbuf; iempintro
  iexact Hrcv

/-- The wait for the incoming transfer of slot `k`. -/
theorem step_recv {k : Slot} {l s w r : ℕ} (hr : recvOrd k = r) (hlev : ∀ k', s ≤ sendOrd k' → k.2.1.val < k'.2.1.val) {rS : DmaSem sig} (hrS : rS = recvSem k)
    {A B : Memref sig .tc .vmem S64x256 .bf16} (hB : B.view.dmaCredit = N) {hx : A.view.WordExact} {hx' : B.view.WordExact}
    {α : Type} {Q : α → sProp 𝕄} {kk : PUnit → Prog (TpuEff nD τ sig (Elt F) Λ₀ .tc) α} :
    St ins K c l s w r ⊢ iprop((St ins K c l s w (r + 1) -∗ wpc c (kk ⟨⟩) Q) -∗ wpc c (.op (.waitDma2 rS A B hx hx') kk) Q) := by
  subst hrS
  have h1 := bigSep_univ_update (Φ := rcvAt ins c r) (Ψ := rcvAt ins c (r + 1)) k (fun k' hk' => by
    have : recvOrd k' ≠ r := fun h' => hk' (recvOrd_inj _ _ (h'.trans hr.symm))
    unfold rcvAt
    by_cases h : recvOrd k' < r
    · rw [if_pos h, if_pos (by omega)]
    · rw [if_neg h, if_neg (by omega)])
  have e1 : rcvAt ins c r k = recvToks c k := by unfold rcvAt; rw [if_neg (by omega)]
  have e2 : rcvAt ins c (r + 1) k = iprop(semVal (recvCell c k) 0 ∗ dstFull ins c k) := by unfold rcvAt; rw [if_pos (by omega)]
  rw [e1, e2] at h1
  unfold St
  iintro ⟨#HR, Hb, ⟨%W, HO⟩, Hsnd, Hbuf, Hrcv⟩ Hk
  ihave Hs := h1 $$ Hrcv
  unfold recvToks
  icases Hs with ⟨⟨Hcr, Hat⟩, Hrcv⟩
  iapply (Rounds.wp_wait_rest_token 𝒱₀ ER (Rd ins) (c : Thread nD τ) none (κ := K (c, some (true, k))) (sm := .dma (recvSem k))
      (wpE_waitDma2_eq 𝒱₀ (c : Thread nD τ) none Set.univ) (Set.mem_univ _) () (O := Osend c s) (W := W) (R := 0) (m := 0) (T := ∅)
      (by rw [Nat.zero_add, hB]; exact (expect_recv ins c k).symm)) $$ [Hcr HO Hat]
  · isplitr; · iapply (inv_at ins K (c, some (true, k))); iexact HR
    isplitl [Hcr]; · rw [hB]; iexact Hcr
    isplitl [HO]; · iexact HO
    isplitr; · iapply (mayWait_recv c k s hlev); iapply (lev_at ins K); iexact HR
    iexact Hat
  iintro ⟨HO, Hat, -, Hpay⟩
  have hp : bigSep ((Rd ins).duties ((c : Thread nD τ), .dma (recvSem k)) 0 \ ∅) (fun d => (Rd ins).payload ((c : Thread nD τ), .dma (recvSem k)) 0 d) = dstFull ins c k :=
    rest_recv ins c k
  ihave Hfull := (Entails.of_eq hp) $$ Hpay
  imod (Rounds.cell_close ER (Rd ins) (Set.mem_univ (K (c, some (true, k)))) (fun h => h) (R := 0 + 1) (duties_later ins (recvCell c k))) $$ [Hat] with Hz
  · isplitr; · iapply (inv_at ins K (c, some (true, k))); iexact HR
    iexact Hat
  iapply Hk
  isplitr; · iexact HR
  isplitl [Hb]; · iexact Hb
  isplitl [HO]; · iexists _; iexact HO
  isplitl [Hsnd]; · iexact Hsnd
  isplitl [Hbuf]; · iexact Hbuf
  iapply Hrcv
  isplitl [Hz]; · iexact Hz
  iexact Hfull

/-- The wait for the own transfer of slot `k`. -/
theorem step_drain {k : Slot} {w r : ℕ} (hw : drainOrd k = w) {sS : DmaSem sig} (hsS : sS = sendSem k)
    {A B : Memref sig .tc .vmem S64x256 .bf16} (hB : B.view.dmaCredit = N) {hx : A.view.WordExact} {hx' : B.view.WordExact}
    {α : Type} {Q : α → sProp 𝕄} {kk : PUnit → Prog (TpuEff nD τ sig (Elt F) Λ₀ .tc) α} :
    St ins K c 8 24 w r ⊢ iprop((St ins K c 8 24 (w + 1) r -∗ wpc c (kk ⟨⟩) Q) -∗ wpc c (.op (.waitDma2 sS A B hx hx') kk) Q) := by
  subst hsS
  have hne : ∀ k', k' ≠ k → drainOrd k' ≠ w := fun k' h h' => h (drainOrd_inj _ _ (h'.trans hw.symm))
  have hlt := sendOrd_lt k
  have h1 := bigSep_univ_update (Φ := sndAt (F := F) c 24 w) (Ψ := sndAt (F := F) c 24 (w + 1)) k (fun k' hk' => by
    have := hne k' hk'
    have := sendOrd_lt k'
    unfold sndAt
    rw [if_pos ‹sendOrd k' < 24›, if_pos ‹sendOrd k' < 24›]
    by_cases h : drainOrd k' < w
    · rw [if_pos h, if_pos (by omega)]
    · rw [if_neg h, if_neg (by omega)])
  have h2 := buf_update (ins := ins) (c := c) (l := 8) (s := 24) (s' := 24) (w := w) (w' := w + 1) k (by unfold sendOrd at hlt; omega)
    (fun k' hk' => by have := hne k' hk'; omega)
  have e1 : sndAt (F := F) c 24 w k = iprop(cred (tallyAt (sendCell c k) () N) ∗ atPos ER (sendCell c k) 0 ∅ 0) := by
    unfold sndAt; rw [if_pos (by omega), if_neg (by omega)]
  have e2 : sndAt (F := F) c 24 (w + 1) k = semVal (sendCell c k) 0 := by unfold sndAt; rw [if_pos (by omega), if_pos (by omega)]
  have e3 : shAt ins c 24 w k = iprop(emp) := by unfold shAt; rw [if_neg (by omega)]
  have e4 : shAt ins c 24 (w + 1) k = srcShr ins c k := by unfold shAt; rw [if_pos (.inr (by omega))]
  rw [e1, e2] at h1
  rw [e3, e4] at h2
  unfold St
  rw [Osend_last]
  iintro ⟨#HR, Hb, ⟨%W, HO⟩, Hsnd, Hbuf, Hrcv⟩ Hk
  ihave Hs := h1 $$ Hsnd
  icases Hs with ⟨⟨Hcr, Hat⟩, Hsnd⟩
  ihave Hb' := h2 $$ Hbuf
  icases Hb' with ⟨-, Hbuf⟩
  iapply (Rounds.wp_wait_rest_token 𝒱₀ ER (Rd ins) (c : Thread nD τ) none (κ := K (c, some (false, k))) (sm := .dma (sendSem k))
      (wpE_waitDma2_eq 𝒱₀ (c : Thread nD τ) none Set.univ) (Set.mem_univ _) () (O := 0) (W := W) (R := 0) (m := 0) (T := ∅)
      (by rw [Nat.zero_add, hB]; exact (expect_send ins c k).symm)) $$ [Hcr HO Hat]
  · isplitr; · iapply (inv_at ins K (c, some (false, k))); iexact HR
    isplitl [Hcr]; · rw [hB]; iexact Hcr
    isplitl [HO]; · iexact HO
    isplitr; · rw [MayWait_zero]; iempintro
    iexact Hat
  iintro ⟨HO, Hat, -, Hpay⟩
  have hp : bigSep ((Rd ins).duties ((c : Thread nD τ), .dma (sendSem k)) 0 \ ∅) (fun d => (Rd ins).payload ((c : Thread nD τ), .dma (sendSem k)) 0 d) = srcShr ins c k :=
    rest_send ins c k
  ihave Hsh := (Entails.of_eq hp) $$ Hpay
  imod (Rounds.cell_close ER (Rd ins) (Set.mem_univ (K (c, some (false, k)))) (fun h => h) (R := 0 + 1) (duties_later ins (sendCell c k))) $$ [Hat] with Hz
  · isplitr; · iapply (inv_at ins K (c, some (false, k))); iexact HR
    iexact Hat
  iapply Hk
  isplitr; · iexact HR
  isplitl [Hb]; · iexact Hb
  isplitl [HO]; · iexists _; iexact HO
  isplitl [Hsnd Hz]; · iapply Hsnd; iexact Hz
  isplitl [Hbuf Hsh]; · iapply Hbuf; iexact Hsh
  iexact Hrcv

/-- Reading the received block of slot `k`. -/
theorem step_load {k : Slot} {l s w r : ℕ} (hr : recvOrd k < r) {hl : rcvM.view.LoadsAt (dstR k).toLoadRect}
    {α : Type} {Q : α → sProp 𝕄} {kk : (S1x1x1x64x256.Idx → Elt F .bf16) → Prog (TpuEff nD τ sig (Elt F) Λ₀ .tc) α} :
    St ins K c l s w r ⊢ iprop((∀ v : Vec F S1x1x1x64x256 .bf16, ⌜shapeCast S64x256 v shapeCasts_S1x1x1x64x256_S64x256 = inb ins c k⌝ -∗ St ins K c l s w r -∗ wpc c (kk v) Q)
      -∗ wpc c (.op (.load rcvM (dstR k).toLoadRect hl) kk) Q) := by
  have h1 := bigSep_univ_update (Φ := rcvAt ins c r) (Ψ := rcvAt ins c r) k (fun k' hk' => rfl)
  have e2 : rcvAt ins c r k = iprop(semVal (recvCell c k) 0 ∗ dstFull ins c k) := by unfold rcvAt; rw [if_pos hr]
  rw [e2] at h1
  unfold St
  iintro ⟨#HR, Hb, HO, Hsnd, Hbuf, Hrcv⟩ Hk
  ihave Hs := h1 $$ Hrcv
  icases Hs with ⟨⟨Hz, Hfull⟩, Hrcv⟩
  unfold dstFull owns
  icases Hfull with ⟨%f, %hf, Hf⟩
  iapply (wp_load 𝒱₀ (c : Thread nD τ) none Set.univ (m := rcvM) (r := (dstR k).toLoadRect) (S := (dstM k).view.set) (by
      rw [View.set_reshape, View.set_slice]; exact Finset.Subset.refl _)) $$ Hf
  iintro Hf
  ispecialize Hk $$ %(rcvM.view.readAt (Elt F) (dstR k).toLoadRect f) %hf
  iapply Hk
  isplitr; · iexact HR
  isplitl [Hb]; · iexact Hb
  isplitl [HO]; · iexact HO
  isplitl [Hsnd]; · iexact Hsnd
  isplitl [Hbuf]; · iexact Hbuf
  iapply Hrcv
  isplitl [Hz]; · iexact Hz
  iexists f
  isplitr; · (ipureintro; exact hf)
  iexact Hf

/-- Reading a source buffer before it is filled: what is read is not used. -/
theorem step_peek {b : Src} {l s w r : ℕ} (hp : pos b = l) {hl : sndM.view.LoadsAt (srcR b).toLoadRect}
    {α : Type} {Q : α → sProp 𝕄} {kk : (S1x1x64x256.Idx → Elt F .bf16) → Prog (TpuEff nD τ sig (Elt F) Λ₀ .tc) α} :
    St ins K c l s w r ⊢ iprop((∀ v : Vec F S1x1x64x256 .bf16, St ins K c l s w r -∗ wpc c (kk v) Q)
      -∗ wpc c (.op (.load sndM (srcR b).toLoadRect hl) kk) Q) := by
  have h1 := bigSep_univ_update (Φ := bufAt ins c l s w) (Ψ := bufAt ins c l s w) b (fun k' hk' => rfl)
  have e2 : bufAt ins c l s w b = iprop(∃ f, srcPts (F := F) c b f) := by unfold bufAt; rw [if_neg (by omega)]
  rw [e2] at h1
  unfold St
  iintro ⟨#HR, Hb, HO, Hsnd, Hbuf, Hrcv⟩ Hk
  ihave Hs := h1 $$ Hbuf
  icases Hs with ⟨⟨%f, Hf⟩, Hbuf⟩
  unfold srcPts
  iapply (wp_load 𝒱₀ (c : Thread nD τ) none Set.univ (m := sndM) (r := (srcR b).toLoadRect) (S := (srcM b).view.set) (by
      rw [View.set_reshape, View.set_slice]; exact Finset.Subset.refl _)) $$ Hf
  iintro Hf
  ispecialize Hk $$ %(sndM.view.readAt (Elt F) (srcR b).toLoadRect f)
  iapply Hk
  isplitr; · iexact HR
  isplitl [Hb]; · iexact Hb
  isplitl [HO]; · iexact HO
  isplitl [Hsnd]; · iexact Hsnd
  isplitl [Hbuf Hf]
  · iapply Hbuf; iexists f; iexact Hf
  iexact Hrcv

/-- A source buffer at known contents in the three shares that its transfers read. -/
theorem shares (b : Src) : (owns (c : Thread nD τ) (srcM b) fullShare (blk ins c b) : sProp 𝕄)
    ⊣⊢ bigSep Finset.univ fun j : Fin 3 => srcShr ins c (b.1, b.2, j) := by
  have h3 : (bigSep Finset.univ fun j : Fin 3 => srcShr ins c (b.1, b.2, j))
      = iprop(srcShr ins c (b.1, b.2, 0) ∗ srcShr ins c (b.1, b.2, 1) ∗ srcShr ins c (b.1, b.2, 2)) :=
    bigSep_univ_eq_bigSepL [0, 1, 2] (by decide) (by decide) _
  rw [h3]
  have h (q : PosShare TreeShare) : (owns (c : Thread nD τ) (srcM b) q (blk ins c b) : sProp 𝕄)
      ⊣⊢ iprop(owns (c : Thread nD τ) (srcM b) q.left (blk ins c b) ∗ owns (c : Thread nD τ) (srcM b) q.right (blk ins c b)) :=
    ownsSat_share (Val := Elt F) (c : Thread nD τ) (srcM b) (fun X => X = blk ins c b) (PosShare.mem_left_op_right q)
  exact (h fullShare).trans (sep_congr .rfl (h fullShare.right))

/-- What a source buffer reads after it is filled. -/
theorem read_fill (b : Src) (f : (sndM.access (srcR b)).ty.Contents (Elt F)) (x : Vec F S1x1x64x256 .bf16) :
    (srcM b).view.read (Elt F) ((sndM.access (srcR b)).write (Elt F) f x Finset.univ) = shapeCast S64x256 x shapeCasts_S1x1x64x256_S64x256 := by
  have h : (sndM.access (srcR b)).read (Elt F) ((sndM.access (srcR b)).write (Elt F) f x Finset.univ) = x := View.read_write_univ f x
  conv_rhs => rw [← h]
  rfl

/-- Filling source buffer `b`. -/
theorem step_fill {b : Src} {l s r : ℕ} (hp : pos b = l) (hs : s ≤ 3 * l) {x : Vec F S1x1x64x256 .bf16}
    (hx : shapeCast S64x256 x shapeCasts_S1x1x64x256_S64x256 = blk ins c b)
    {hst : (sndM.access (srcR b)).Stores Finset.univ} {hm : (Finset.univ : Finset (srcR b).shape.Idx) = Finset.univ ∨ ∀ a, (srcR b).stride a = 1}
    {α : Type} {Q : α → sProp 𝕄} {kk : PUnit → Prog (TpuEff nD τ sig (Elt F) Λ₀ .tc) α} :
    St ins K c l s 0 r ⊢ iprop((St ins K c (l + 1) s 0 r -∗ wpc c (kk ⟨⟩) Q)
      -∗ wpc c (.op (.store sndM (srcR b) x Finset.univ hst hm) kk) Q) := by
  have h1 := bigSep_univ_update (Φ := bufAt ins c l s 0) (Ψ := bufAt ins c (l + 1) s 0) b (fun b' hb' => by
    have : pos b' ≠ l := fun h' => hb' (pos_inj _ _ (h'.trans hp.symm))
    unfold bufAt
    by_cases h : pos b' < l
    · rw [if_pos h, if_pos (by omega)]
    · rw [if_neg h, if_neg (by omega)])
  have e1 : bufAt ins c l s 0 b = iprop(∃ f, srcPts (F := F) c b f) := by unfold bufAt; rw [if_neg (by omega)]
  have e2 : bufAt ins c (l + 1) s 0 b = bigSep Finset.univ fun j : Fin 3 => srcShr ins c (b.1, b.2, j) := by
    unfold bufAt; rw [if_pos (by omega)]
    refine bigSep_congr fun j _ => ?_
    unfold shAt; rw [if_pos]
    left; unfold sendOrd; rw [show srcOf (b.1, b.2, j) = b from rfl, hp]; omega
  rw [e1, e2] at h1
  unfold St
  iintro ⟨#HR, Hb, HO, Hsnd, Hbuf, Hrcv⟩ Hk
  ihave Hs := h1 $$ Hbuf
  icases Hs with ⟨⟨%f, Hf⟩, Hbuf⟩
  unfold srcPts
  iapply (wp_store 𝒱₀ (c : Thread nD τ) none Set.univ (m := sndM) (r := srcR b) (Mk := Finset.univ) (S := (srcM b).view.set) (by
      rw [View.set_reshape]; exact Finset.Subset.refl _)) $$ Hf
  iintro Hf
  iapply Hk
  isplitr; · iexact HR
  isplitl [Hb]; · iexact Hb
  isplitl [HO]; · iexact HO
  isplitl [Hsnd]; · iexact Hsnd
  isplitl [Hbuf Hf]
  · iapply Hbuf
    iapply (shares (ins := ins) (c := c) b).1
    unfold owns
    iexists _
    isplitr; swap; · iexact Hf
    ipureintro
    exact (read_fill b f x).trans hx
  iexact Hrcv

end Steps

end Cert.Ep

end
-- ==== Proof.Start.lean ====
/-
# Start: the barrier, the inputs and the result

Before the barrier a device holds its own receive slots and hands those of each mask to the partner under that mask;
after the barrier it holds the slots of its partners that its transfers fill. The inputs are read only. The result is
stored chain by chain.
-/
module

public import proofs.«01_k».proof.Proof.State

@[expose] public section

set_option maxRecDepth 16384

noncomputable section

namespace Cert.Ep

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ins : Dev nD → Ins F) (K : Dev nD × Kd → ℕ) (c : Dev nD)

/-! ## The barrier -/

/-- The own receive slots whose partners are still to be signalled, -/
def slotsFrom (n : ℕ) (k : Slot) : sProp 𝕄 := if n ≤ (msk k).val then iprop(∃ f, dstPts (F := F) c k f) else iprop(emp)

/-- and the tokens of the signals that are still to be given. -/
def barToks (n : ℕ) (m : Fin 6) : sProp 𝕄 := if n ≤ m.val then dutyTok ER (barCell (par m c)) 0 m else iprop(emp)

/-- What device `c` holds before the barrier, after `n` signals. -/
def Pre (n : ℕ) : sProp 𝕄 :=
  iprop(records ins K ∗ (∃ W, owes (c : Thread nD τ) (Osend c 0 + Obar c n) W)
    ∗ (cred (tallyAt (barCell c) () 6) ∗ atPos ER (barCell c) 0 ∅ 0)
    ∗ bigSep Finset.univ (barToks (F := F) c n) ∗ bigSep Finset.univ (slotsFrom (F := F) c n)
    ∗ bigSep Finset.univ (sendToks (F := F) c) ∗ bigSep Finset.univ (bufAt ins c 0 0 0) ∗ bigSep Finset.univ (rcvAt ins c 0))

variable {ins K c}

/-- The slots of mask `m` taken out. -/
theorem slots_take (m : Fin 6) :
    bigSep Finset.univ (slotsFrom (F := F) c m.val) = (iprop(barPay (par m c) m ∗ bigSep Finset.univ (slotsFrom (F := F) c (m.val + 1))) : sProp 𝕄) := by
  unfold barPay
  rw [par_par, ← bigSep_sep']
  refine bigSep_congr fun k _ => ?_
  unfold slotsFrom
  by_cases h : msk k = m
  · rw [if_pos (by omega), if_pos h, if_neg (by omega)]
    exact (BI.equiv_iff.mp Idealize.SL.BI.sep_emp).symm
  · have : (msk k).val ≠ m.val := fun h' => h (Fin.ext h')
    rw [if_neg h]
    by_cases h2 : m.val ≤ (msk k).val
    · rw [if_pos h2, if_pos (by omega)]; exact (BI.equiv_iff.mp Idealize.SL.BI.emp_sep).symm
    · rw [if_neg h2, if_neg (by omega)]; exact (BI.equiv_iff.mp Idealize.SL.BI.emp_sep).symm

/-- The signal to the partner under mask `m`. -/
theorem step_signal (m : Fin 6) {i : ℕ} (hi : m.val = i) {n : Dev nD} (hn : n = par m c) {a : ℕ} (ha : a = 1)
    {α : Type} {Q : α → sProp 𝕄} {kk : PUnit → Prog (TpuEff nD τ sig (Elt F) Λ₀ .tc) α} :
    Pre ins K c i ⊢ iprop((Pre ins K c (i + 1) -∗ wpc c (kk ⟨⟩) Q) -∗ wpc c (.op (.semSignal (Dev.tc n : Thread nD τ) barS a) kk) Q) := by
  subst hn; subst ha; subst hi
  have h1 := bigSep_univ_update (Φ := barToks (F := F) c m.val) (Ψ := barToks (F := F) c (m.val + 1)) m (fun m' hm' => by
    have : m'.val ≠ m.val := fun h => hm' (Fin.ext h)
    unfold barToks
    by_cases h : m.val ≤ m'.val
    · rw [if_pos h, if_pos (by omega)]
    · rw [if_neg h, if_neg (by omega)])
  have e1 : barToks (F := F) c m.val m = dutyTok ER (barCell (par m c)) 0 m := by unfold barToks; rw [if_pos (Nat.le_refl _)]
  have e2 : barToks (F := F) c (m.val + 1) m = iprop(emp) := by unfold barToks; rw [if_neg (by omega)]
  rw [e1, e2] at h1
  unfold Pre
  rw [slots_take m]
  iintro ⟨#HR, ⟨%W, HO⟩, HB, Htk, ⟨Hpay, Hsl⟩, Hst, Hbuf, Hrcv⟩ Hk
  ihave Hs := h1 $$ Htk
  icases Hs with ⟨Ht, Htk⟩
  iapply (Rounds.wp_signal 𝒱₀ ER (Rd ins) (c : Thread nD τ) none (dst := (Dev.tc (par m c) : Thread nD τ)) (κ := K (par m c, none))
      (d := m) (by rw [show (((Dev.tc (par m c) : Thread nD τ), SemLoc.reg barS) : GSem nD τ sig) = barCell (par m c) from rfl, duties_bar]; exact Finset.mem_univ _)
      (amount_bar ins (par m c) m) () (Osend c 0 + Obar c (m.val + 1)) (O₀ := Osend c 0 + Obar c m.val) (by rw [Obar_step c m, add_assoc]; rfl)) $$ [HO Ht Hpay]
  · isplitr; · iapply (inv_at ins K (par m c, none)); iexact HR
    isplitl [HO]; · iexact HO
    isplitl [Ht]; · iexact Ht
    isplitl [Hpay]
    · rw [show (Rd ins).payload ((Dev.tc (par m c) : Thread nD τ), SemLoc.reg barS) 0 m = barPay (par m c) m from payload_bar ins (par m c) m]
      iexact Hpay
    iapply (reached_at ins K (par m c, none)); iexact HR
  iintro HO
  iapply Hk
  isplitr; · iexact HR
  isplitl [HO]; · iexists W; iexact HO
  isplitl [HB]; · iexact HB
  isplitl [Htk]; · iapply Htk; iempintro
  isplitl [Hsl]; · iexact Hsl
  isplitl [Hst]; · iexact Hst
  isplitl [Hbuf]; · iexact Hbuf
  iexact Hrcv

/-- The wait at the barrier. -/
theorem step_barrier {a : ℕ} (ha : a = 6) {α : Type} {Q : α → sProp 𝕄} {kk : PUnit → Prog (TpuEff nD τ sig (Elt F) Λ₀ .tc) α} :
    Pre ins K c 6 ⊢ iprop((St ins K c 0 0 0 0 -∗ wpc c (kk ⟨⟩) Q) -∗ wpc c (.op (.semWait barS a) kk) Q) := by
  subst ha
  have hs : bigSep Finset.univ (sndAt (F := F) c 0 0)
      = (iprop(bigSep Finset.univ (sendToks (F := F) c) ∗ bigSep Finset.univ fun k : Slot => iprop(∃ f, dstPts (F := F) (peer k c) k f)) : sProp 𝕄) := by
    rw [← bigSep_sep']
    refine bigSep_congr fun k _ => ?_
    unfold sndAt; rw [if_neg (Nat.not_lt_zero _)]
  unfold Pre St
  rw [Obar_last, add_zero, hs]
  iintro ⟨#HR, ⟨%W, HO⟩, ⟨Hcr, Hat⟩, -, -, Hst, Hbuf, Hrcv⟩ Hk
  iapply (Rounds.wp_wait_rest_token 𝒱₀ ER (Rd ins) (c : Thread nD τ) none (κ := K (c, none)) (sm := .reg barS)
      (wpE_semWait_eq 𝒱₀ (c : Thread nD τ) none Set.univ) (Set.mem_univ _) () (O := Osend c 0) (W := W) (R := 0) (m := 0) (T := ∅)
      (by rw [Nat.zero_add]; exact (expect_bar ins c).symm)) $$ [Hcr HO Hat]
  · isplitr; · iapply (inv_at ins K (c, none)); iexact HR
    isplitl [Hcr]; · iexact Hcr
    isplitl [HO]; · iexact HO
    isplitr; · iapply (mayWait_bar c); iapply (lev_at ins K); iexact HR
    iexact Hat
  iintro ⟨HO, Hat, -, Hpay⟩
  have hp : bigSep ((Rd ins).duties ((c : Thread nD τ), .reg barS) 0 \ ∅) (fun d => (Rd ins).payload ((c : Thread nD τ), .reg barS) 0 d)
      = bigSep Finset.univ fun k : Slot => iprop(∃ f, dstPts (F := F) (peer k c) k f) := rest_bar ins c
  ihave Hfull := (Entails.of_eq hp) $$ Hpay
  imod (Rounds.cell_close ER (Rd ins) (Set.mem_univ (K (c, none))) (fun h => h) (R := 0 + 1) (duties_later ins (barCell c))) $$ [Hat] with Hz
  · isplitr; · iapply (inv_at ins K (c, none)); iexact HR
    iexact Hat
  iapply Hk
  isplitr; · iexact HR
  isplitl [Hz]; · iexact Hz
  isplitl [HO]; · iexists _; iexact HO
  isplitl [Hst Hfull]
  · isplitl [Hst]; · iexact Hst
    iexact Hfull
  isplitl [Hbuf]; · iexact Hbuf
  iexact Hrcv

/-! ## The inputs -/

/-- What the body reads of staged blocks. -/
def insOf (X : Vec F S256x128 .bf16) (W : Vec F S128x32 .bf16) (I : Vec F S256x2 .i32) (E : Vec F S2x128x256 .bf16) : Ins F where
  x := X
  rw := W
  i0 := ixM.view.readAt (Elt F) (Rect.unit (s := S256x2) ![0, 0] S256x1.size inb_S256x2_S256x1_0_0).toLoadRect I
  i1 := ixM.view.readAt (Elt F) (Rect.unit (s := S256x2) ![0, 1] S256x1.size inb_S256x2_S256x1_0_1).toLoadRect I
  e0 := ewM.view.readAt (Elt F) (Rect.unit (s := S2x128x256) ![0, 0, 0] S1x128x256.size inb_S2x128x256_S1x128x256_0_0_0).toLoadRect E
  e1 := ewM.view.readAt (Elt F) (Rect.unit (s := S2x128x256) ![1, 0, 0] S1x128x256.size inb_S2x128x256_S1x128x256_1_0_0).toLoadRect E

/-- A staging buffer at known contents. -/
abbrev pts (c : Dev nD) (b : Ref sig .tc) (X : b.ty.Contents (Elt F)) : sProp 𝕄 := ((c : Thread nD τ).loc b) ↦{fullShare} (X : Buf (Elt F) ((c : Thread nD τ).loc b))

theorem read_xM (X : (cc0_stg0_0 : Ref sig .tc).ty.Contents (Elt F)) :
    xM.view.readAt (Elt F) (Rect.unit (s := S256x128) ![0, 0] S256x128.size inb_S256x128_S256x128_0_0).toLoadRect X = X :=
  Memref.readAt_unit_zero (Elt F) cc0_stg0_0 (by decide) _ X
theorem read_rwM (X : (cc0_stg1_0 : Ref sig .tc).ty.Contents (Elt F)) :
    rwM.view.readAt (Elt F) (Rect.unit (s := S128x32) ![0, 0] S128x32.size inb_S128x32_S128x32_0_0).toLoadRect X = X :=
  Memref.readAt_unit_zero (Elt F) cc0_stg1_0 (by decide) _ X

/-! ## The result -/

/-- The result array that the chains make up. -/
def outAll (ins : Dev nD → Ins F) (c : Dev nD) : Vec F S256x256 .f32 := fun i =>
  res ins c ⟨(i 0).val / 64, by have : (i 0).val < 256 := (i 0).isLt; omega⟩
    (show S64x256.Idx from fun a => match a with
      | ⟨0, _⟩ => ⟨(i 0).val % 64, Nat.mod_lt _ (by decide)⟩
      | ⟨1, _⟩ => ⟨(i 1).val, (i 1).isLt⟩)

/-- The result buffer after `n` chains are stored. -/
def Out (ins : Dev nD → Ins F) (c : Dev nD) (n : ℕ) : sProp 𝕄 :=
  iprop(∃ f : (cc0_stg4_0 : Ref sig .tc).ty.Contents (Elt F),
    ⌜∀ ch, outOrd ch < n → (oM.view.slice (outR ch)).read (Elt F) f = res ins c ch⌝ ∗ pts c cc0_stg4_0 f)

/-- Reading the result buffer: what is read is not used. -/
theorem out_peek {n : ℕ} {ch : Fin 4} {hl : oM.view.LoadsAt (outR ch).toLoadRect}
    {α : Type} {Q : α → sProp 𝕄} {kk : (S64x256.Idx → Elt F .f32) → Prog (TpuEff nD τ sig (Elt F) Λ₀ .tc) α} :
    Out ins c n ⊢ iprop((∀ v : Vec F S64x256 .f32, Out ins c n -∗ wpc c (kk v) Q) -∗ wpc c (.op (.load oM (outR ch).toLoadRect hl) kk) Q) := by
  unfold Out
  iintro ⟨%f, %hf, Hf⟩ Hk
  iapply (wp_load 𝒱₀ (c : Thread nD τ) none Set.univ (m := oM) (r := (outR ch).toLoadRect) (S := Finset.univ) (Finset.subset_univ _)) $$ Hf
  iintro Hf
  ispecialize Hk $$ %(oM.view.readAt (Elt F) (outR ch).toLoadRect f)
  iapply Hk
  iexists f
  isplitr; · (ipureintro; exact hf)
  iexact Hf

theorem outR_disjoint (ch ch' : Fin 4) (h : ch ≠ ch') : Disjoint (oM.view.slice (outR ch)).set ((oM.view.slice (outR ch')).setOn Finset.univ) := by
  rw [Finset.disjoint_left]
  intro i hi hi'
  obtain ⟨x, -, rfl⟩ := Finset.mem_map.mp hi
  obtain ⟨y, -, hy⟩ := Finset.mem_map.mp hi'
  have h0 : (64 * ch'.val + 1 * (y 0).val) = (64 * ch.val + 1 * (x 0).val) := congrArg (fun i : S256x256.Idx => (i 0).val) hy
  have hx : (x 0).val < 64 := (x 0).isLt
  have hy' : (y 0).val < 64 := (y 0).isLt
  exact h (Fin.ext (by omega))

/-- Storing the rows of a chain. -/
theorem out_store {n : ℕ} {ch : Fin 4} (hn : outOrd ch = n) {x : Vec F S64x256 .f32} (hx : x = res ins c ch)
    {hst : (oM.access (outR ch)).Stores Finset.univ} {hm : (Finset.univ : Finset (outR ch).shape.Idx) = Finset.univ ∨ ∀ a, (outR ch).stride a = 1}
    {α : Type} {Q : α → sProp 𝕄} {kk : PUnit → Prog (TpuEff nD τ sig (Elt F) Λ₀ .tc) α} :
    Out ins c n ⊢ iprop((Out ins c (n + 1) -∗ wpc c (kk ⟨⟩) Q) -∗ wpc c (.op (.store oM (outR ch) x Finset.univ hst hm) kk) Q) := by
  subst hx
  unfold Out
  iintro ⟨%f, %hf, Hf⟩ Hk
  iapply (wp_store 𝒱₀ (c : Thread nD τ) none Set.univ (m := oM) (r := outR ch) (Mk := Finset.univ) (S := Finset.univ) (Finset.subset_univ _)) $$ Hf
  iintro Hf
  iapply Hk
  iexists _
  isplitr; swap; · iexact Hf
  ipureintro
  intro ch' hch'
  by_cases h : ch' = ch
  · subst h; exact View.read_write_univ (v := oM.view.slice (outR ch')) f _
  · have : outOrd ch' ≠ outOrd ch := fun h' => h (outOrd_inj _ _ h')
    exact (View.read_slice_write_slice_of_disjoint (v := oM.view) (outR ch') (outR ch) f (res ins c ch) Finset.univ (outR_disjoint ch' ch h)).trans (hf ch' (by omega))

theorem outOrd_lt : ∀ ch : Fin 4, outOrd ch < 4 := by decide

/-- After the last chain the buffer holds the whole result. -/
theorem out_all : Out ins c 4 ⊢ (pts c cc0_stg4_0 (outAll ins c) : sProp 𝕄) := by
  unfold Out
  iintro ⟨%f, %hf, Hf⟩
  have h : f = outAll ins c := by
    funext i
    have hi : (i 0).val < 256 := (i 0).isLt
    have h := congrFun (hf ⟨(i 0).val / 64, by omega⟩ (outOrd_lt _)) (show S64x256.Idx from fun a => match a with
      | ⟨0, _⟩ => ⟨(i 0).val % 64, Nat.mod_lt _ (by decide)⟩
      | ⟨1, _⟩ => ⟨(i 1).val, (i 1).isLt⟩)
    refine Eq.trans ?_ h
    refine congrArg f (funext fun a => Fin.ext ?_)
    match a with
    | ⟨0, _⟩ => show (i 0).val = 64 * ((i 0).val / 64) + 1 * ((i 0).val % 64); omega
    | ⟨1, _⟩ => show (i 1).val = 0 + 1 * (i 1).val; omega
  rw [h]
  iexact Hf

end Cert.Ep

end
-- ==== Proof.Devices.lean ====
/-
# Devices: the device that each signal and each transfer of the body names
-/
module

public import proofs.«01_k».proof.Proof.Start

@[expose] public section

set_option maxRecDepth 16384

noncomputable section

namespace Cert.Ep

open Cert.KernelIdeal Cert.KernelIdeal.Gen
open Idealize.ShloMosaic Idealize.ShloMosaic.TcCoe

/-! ## The signals -/

theorem dev1 : ∀ c : Dev nD, (⟨k0_dev1 c, k0_dev1_lt c⟩ : Dev nD) = par 0 c := by decide
theorem dev2 : ∀ c : Dev nD, (⟨k0_dev2 c, k0_dev2_lt c⟩ : Dev nD) = par 1 c := by decide
theorem dev3 : ∀ c : Dev nD, (⟨k0_dev3 c, k0_dev3_lt c⟩ : Dev nD) = par 2 c := by decide
theorem dev4 : ∀ c : Dev nD, (⟨k0_dev4 c, k0_dev4_lt c⟩ : Dev nD) = par 3 c := by decide
theorem dev5 : ∀ c : Dev nD, (⟨k0_dev5 c, k0_dev5_lt c⟩ : Dev nD) = par 4 c := by decide
theorem dev6 : ∀ c : Dev nD, (⟨k0_dev6 c, k0_dev6_lt c⟩ : Dev nD) = par 5 c := by decide

/-! ## The transfers, in the order in which they are started -/

theorem dev7 : ∀ c : Dev nD, (⟨k0_dev7 c, k0_dev7_lt c⟩ : Dev nD) = peer (0, 0, 0) c := by decide
theorem dev8 : ∀ c : Dev nD, (⟨k0_dev8 c, k0_dev8_lt c⟩ : Dev nD) = peer (0, 0, 1) c := by decide
theorem dev9 : ∀ c : Dev nD, (⟨k0_dev9 c, k0_dev9_lt c⟩ : Dev nD) = peer (0, 0, 2) c := by decide
theorem dev10 : ∀ c : Dev nD, (⟨k0_dev10 c, k0_dev10_lt c⟩ : Dev nD) = peer (1, 0, 0) c := by decide
theorem dev11 : ∀ c : Dev nD, (⟨k0_dev11 c, k0_dev11_lt c⟩ : Dev nD) = peer (1, 0, 1) c := by decide
theorem dev12 : ∀ c : Dev nD, (⟨k0_dev12 c, k0_dev12_lt c⟩ : Dev nD) = peer (1, 0, 2) c := by decide
theorem dev13 : ∀ c : Dev nD, (⟨k0_dev13 c, k0_dev13_lt c⟩ : Dev nD) = peer (2, 0, 0) c := by decide
theorem dev14 : ∀ c : Dev nD, (⟨k0_dev14 c, k0_dev14_lt c⟩ : Dev nD) = peer (2, 0, 1) c := by decide
theorem dev15 : ∀ c : Dev nD, (⟨k0_dev15 c, k0_dev15_lt c⟩ : Dev nD) = peer (2, 0, 2) c := by decide
theorem dev16 : ∀ c : Dev nD, (⟨k0_dev16 c, k0_dev16_lt c⟩ : Dev nD) = peer (3, 0, 0) c := by decide
theorem dev17 : ∀ c : Dev nD, (⟨k0_dev17 c, k0_dev17_lt c⟩ : Dev nD) = peer (3, 0, 1) c := by decide
theorem dev18 : ∀ c : Dev nD, (⟨k0_dev18 c, k0_dev18_lt c⟩ : Dev nD) = peer (3, 0, 2) c := by decide
theorem dev19 : ∀ c : Dev nD, (⟨k0_dev19 c, k0_dev19_lt c⟩ : Dev nD) = peer (0, 1, 0) c := by decide
theorem dev20 : ∀ c : Dev nD, (⟨k0_dev20 c, k0_dev20_lt c⟩ : Dev nD) = peer (0, 1, 1) c := by decide
theorem dev21 : ∀ c : Dev nD, (⟨k0_dev21 c, k0_dev21_lt c⟩ : Dev nD) = peer (0, 1, 2) c := by decide
theorem dev22 : ∀ c : Dev nD, (⟨k0_dev22 c, k0_dev22_lt c⟩ : Dev nD) = peer (2, 1, 0) c := by decide
theorem dev23 : ∀ c : Dev nD, (⟨k0_dev23 c, k0_dev23_lt c⟩ : Dev nD) = peer (2, 1, 1) c := by decide
theorem dev24 : ∀ c : Dev nD, (⟨k0_dev24 c, k0_dev24_lt c⟩ : Dev nD) = peer (2, 1, 2) c := by decide
theorem dev25 : ∀ c : Dev nD, (⟨k0_dev25 c, k0_dev25_lt c⟩ : Dev nD) = peer (1, 1, 0) c := by decide
theorem dev26 : ∀ c : Dev nD, (⟨k0_dev26 c, k0_dev26_lt c⟩ : Dev nD) = peer (1, 1, 1) c := by decide
theorem dev27 : ∀ c : Dev nD, (⟨k0_dev27 c, k0_dev27_lt c⟩ : Dev nD) = peer (1, 1, 2) c := by decide
theorem dev28 : ∀ c : Dev nD, (⟨k0_dev28 c, k0_dev28_lt c⟩ : Dev nD) = peer (3, 1, 0) c := by decide
theorem dev29 : ∀ c : Dev nD, (⟨k0_dev29 c, k0_dev29_lt c⟩ : Dev nD) = peer (3, 1, 1) c := by decide
theorem dev30 : ∀ c : Dev nD, (⟨k0_dev30 c, k0_dev30_lt c⟩ : Dev nD) = peer (3, 1, 2) c := by decide

end Cert.Ep

end
-- ==== Proof.PartsA.lean ====
/-
# Parts, first third: the barrier and the four chains' first sends

For each part of the body: from the state before it, it runs to the state after it and returns the values stated.
-/
module

public import proofs.«01_k».proof.Proof.Devices
public import Idealize.ShloMosaic.Lib.Pipeline.Value

@[expose] public section

set_option maxRecDepth 16384

noncomputable section

namespace Cert.Ep

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A part of the body at the kernel's own buffers and semaphores. -/
abbrev on {β : Sort*} (f : ∀ a0 : Memref sig .tc .vmem S256x128 .bf16, a0.IsWhole → ∀ a1 : Memref sig .tc .vmem S128x32 .bf16, a1.IsWhole →
    ∀ a2 : Memref sig .tc .vmem S256x2 .i32, a2.IsWhole → ∀ a3 : Memref sig .tc .vmem S2x128x256 .bf16, a3.IsWhole →
    ∀ a4 : Memref sig .tc .vmem S256x256 .f32, a4.IsWhole → ∀ a5 : Memref sig .tc .vmem S4x2x64x256 .bf16, a5.IsWhole →
    ∀ a6 : Memref sig .tc .vmem S4x2x3x64x256 .bf16, a6.IsWhole → DmaSems sig S4x2x3 → DmaSems sig S4x2x3 → β) : β :=
  f xM (Memref.isWhole_whole _) rwM (Memref.isWhole_whole _) ixM (Memref.isWhole_whole _) ewM (Memref.isWhole_whole _) oM (Memref.isWhole_whole _)
    sndM (Memref.isWhole_whole _) rcvM (Memref.isWhole_whole _) cc0_scratch2 cc0_scratch3

/-! ## Sums -/

/-- The slot whose block is added at each place of a chain. -/
def slotNo (ch : Fin 4) (n : ℕ) : Slot := match n with
  | 0 => (ch, 0, 0) | 1 => (ch, 0, 1) | 2 => (ch, 0, 2) | 3 => (ch, 1, 0) | 4 => (ch, 1, 1) | _ => (ch, 1, 2)

/-- The sum of a chain after `n` received blocks are added. -/
def psum (ins : Dev nD → Ins F) (c : Dev nD) (ch : Fin 4) : ℕ → FVec F S64x256 .f32
  | 0 => acc0 ins c ch
  | n + 1 => addIn (psum ins c ch n) (inb ins c (slotNo ch n))

theorem psum_res (ins : Dev nD → Ins F) (c : Dev nD) (ch : Fin 4) : psum ins c ch 6 = res ins c ch := rfl

/-- A block as it was loaded, added, -/
theorem plus1 {a : FVec F S64x256 .f32} {v : Vec F S1x1x1x64x256 .bf16} {b : FVec F S64x256 .bf16}
    (h : shapeCast S64x256 v shapeCasts_S1x1x1x64x256_S64x256 = b) :
    addIn a (shapeCast S64x256 v shapeCasts_S1x1x1x64x256_S64x256) = addIn a b := by rw [h]

/-- and two. -/
theorem plus2 {a : FVec F S64x256 .f32} {v w : Vec F S1x1x1x64x256 .bf16} {b d : FVec F S64x256 .bf16}
    (h : shapeCast S64x256 v shapeCasts_S1x1x1x64x256_S64x256 = b) (h' : shapeCast S64x256 w shapeCasts_S1x1x1x64x256_S64x256 = d) :
    addIn (addIn a (shapeCast S64x256 v shapeCasts_S1x1x1x64x256_S64x256)) (shapeCast S64x256 w shapeCasts_S1x1x1x64x256_S64x256) = addIn (addIn a b) d := by
  rw [h, h']

/-- A rounded sum as it is stored. -/
theorem stored {a b : FVec F S64x256 .f32} (h : a = b) :
    shapeCast S64x256 (shapeCast S1x1x64x256 (rnd a) shapeCasts_S64x256_S1x1x64x256) shapeCasts_S1x1x64x256_S64x256 = rnd b := by
  rw [h]; exact shapeCast_shapeCast _ _ _

/-! ## Parts -/

/-- The end of a part: what it returns is what is stated. -/
theorem finish {c : Dev nD} {P : sProp 𝕄} {α : Type} {Q : α → sProp 𝕄} {a b : α} (h : a = b) :
    iprop(P -∗ Q b) ⊢ iprop(P -∗ wpc c (Prog.ret a : Prog (TpuEff nD τ sig (Elt F) Λ₀ .tc) α) Q) := by
  subst h
  iintro Hk H
  unfold wpc
  rw [wp_ret]; imodintro
  iapply Hk; iexact H

variable {ins : Dev nD → Ins F} {K : Dev nD × Kd → ℕ} {c : Dev nD}
variable {X : Vec F S256x128 .bf16} {W : Vec F S128x32 .bf16} {I : Vec F S256x2 .i32} {E : Vec F S2x128x256 .bf16}

theorem part1 (hi : ins c = insOf X W I E) {Q : _ → sProp 𝕄} :
    iprop(Pre ins K c 0 ∗ pts c cc0_stg0_0 X) ⊢ iprop(((Pre ins K c 6 ∗ pts c cc0_stg0_0 X)
        -∗ Q ⟨c, rank c, Scalar.xori (rank c) 1#32, Scalar.xori (rank c) 3#32, Scalar.xori (rank c) 2#32, Scalar.xori (rank c) 4#32,
          Scalar.xori (rank c) 8#32, Scalar.xori (rank c) 12#32, SemArray.scalar (sig.barrier 0 rfl), xv ins c⟩)
      -∗ wpc c (on (k0_part1 (F := F))) Q) := by
  unfold on
  rw [k0_part1_eq_skeleton]; unfold k0_part1_skel
  simp only [semSignalWord, Prog.lift, Prog.bind_op, Prog.bind_ret, Prog.pure_eq_ret, wp_deviceId]
  iintro ⟨H, HX⟩ Hk
  iapply (step_signal 0 (i := 0) rfl (dev1 c) (by decide)) $$ H; iintro H
  iapply (step_signal 1 (i := 1) rfl (dev2 c) (by decide)) $$ H; iintro H
  iapply (step_signal 2 (i := 2) rfl (dev3 c) (by decide)) $$ H; iintro H
  iapply (step_signal 3 (i := 3) rfl (dev4 c) (by decide)) $$ H; iintro H
  iapply (step_signal 4 (i := 4) rfl (dev5 c) (by decide)) $$ H; iintro H
  iapply (step_signal 5 (i := 5) rfl (dev6 c) (by decide)) $$ H; iintro H
  iapply (wp_load 𝒱₀ (c : Thread nD τ) none Set.univ (m := xM) (Finset.subset_univ _)) $$ HX; iintro HX
  rw [read_xM]
  have hx : k0_pay1 X = xv ins c := by unfold xv; rw [hi]; rfl
  rw [hx]
  iapply (finish (by rfl)) $$ Hk
  isplitl [H]; · iexact H
  iexact HX

theorem part2 (hi : ins c = insOf X W I E) {Q : _ → sProp 𝕄} :
    iprop(pts c cc0_stg1_0 W ∗ pts c cc0_stg2_0 I) ⊢ iprop(((pts c cc0_stg1_0 W ∗ pts c cc0_stg2_0 I)
        -∗ Q ⟨idx1 ins c, exp1 ins c, den ins c, wt0 ins c, exp1No c, wt1a ins c⟩)
      -∗ wpc c (on (k0_part2 (F := F)) (rank c) (xv ins c)) Q) := by
  unfold on
  rw [k0_part2_eq_skeleton]; unfold k0_part2_skel
  simp only [Prog.lift, Prog.bind_op, Prog.bind_ret, Prog.pure_eq_ret]
  iintro ⟨HW, HI⟩ Hk
  iapply (wp_load 𝒱₀ (c : Thread nD τ) none Set.univ (m := rwM) (Finset.subset_univ _)) $$ HW; iintro HW
  iapply (wp_load 𝒱₀ (c : Thread nD τ) none Set.univ (m := ixM) (Finset.subset_univ _)) $$ HI; iintro HI
  iapply (wp_load 𝒱₀ (c : Thread nD τ) none Set.univ (m := ixM) (Finset.subset_univ _)) $$ HI; iintro HI
  rw [read_rwM]
  iapply (finish (by unfold idx1 exp1 den wt0 exp1No wt1a; rw [hi]; rfl)) $$ Hk
  isplitl [HW]; · iexact HW
  iexact HI

theorem part3 (hi : ins c = insOf X W I E) {v3 : BitVec 32} {Q : _ → sProp 𝕄} :
    iprop(Pre ins K c 6 ∗ pts c cc0_stg3_0 E) ⊢ iprop(((St ins K c 1 0 0 0 ∗ pts c cc0_stg3_0 E)
        -∗ Q ⟨wt1 ins c, ew0 ins c, ew1 ins c, acc0 ins c 0, Scalar.muli v3 1#32, 0#32⟩)
      -∗ wpc c (on (k0_part3 (F := F)) v3 (SemArray.scalar (sig.barrier 0 rfl)) (xv ins c) (idx1 ins c) (exp1 ins c) (den ins c) (wt0 ins c) (exp1No c) (wt1a ins c)) Q) := by
  unfold on
  rw [k0_part3_eq_skeleton]; unfold k0_part3_skel
  simp only [semWaitWord, Prog.lift, Prog.bind_op, Prog.bind_ret, Prog.pure_eq_ret]
  have h0 : ewM.view.readAt (Elt F) (Rect.unit (s := S2x128x256) ![0, 0, 0] S1x128x256.size inb_S2x128x256_S1x128x256_0_0_0).toLoadRect E = (ins c).e0 := by rw [hi]; rfl
  have h1 : ewM.view.readAt (Elt F) (Rect.unit (s := S2x128x256) ![1, 0, 0] S1x128x256.size inb_S2x128x256_S1x128x256_1_0_0).toLoadRect E = (ins c).e1 := by rw [hi]; rfl
  iintro ⟨H, HE⟩ Hk
  iapply (wp_load 𝒱₀ (c : Thread nD τ) none Set.univ (m := ewM) (Finset.subset_univ _)) $$ HE; iintro HE
  iapply (wp_load 𝒱₀ (c : Thread nD τ) none Set.univ (m := ewM) (Finset.subset_univ _)) $$ HE; iintro HE
  rw [h0, h1]
  iapply (step_barrier (by decide)) $$ H; iintro H
  iapply (step_peek (b := (0, 0)) (l := 0) rfl) $$ H; iintro %v H
  iapply (step_fill (b := (0, 0)) (l := 0) rfl (by decide) (stored rfl)) $$ H; iintro H
  iapply (finish (by rfl)) $$ Hk
  isplitl [H]; · iexact H
  iexact HE

theorem part4 {v4 v5 v97 z : BitVec 32} {Q : _ → sProp 𝕄} :
    St ins K c 1 0 0 0 ⊢ iprop((St ins K c 1 2 0 0 -∗ Q ⟨⟩) -∗ wpc c (on (k0_part4 (F := F)) c v4 v5 v97 z) Q) := by
  unfold on
  rw [k0_part4_eq_skeleton]; unfold k0_part4_skel
  simp only [Prog.lift, Prog.bind_op, Prog.bind_ret, Prog.pure_eq_ret]
  iintro H Hk
  iapply (step_send (k := (0, 0, 0)) (s := 0) rfl (by decide) (dev7 c) rfl rfl rfl rfl) $$ H; iintro H
  iapply (step_send (k := (0, 0, 1)) (s := 1) rfl (by decide) (dev8 c) rfl rfl rfl rfl) $$ H; iintro H
  iapply (finish (by rfl)) $$ Hk; iexact H

theorem part5 {v6 : BitVec 32} {Q : _ → sProp 𝕄} :
    St ins K c 1 2 0 0 ⊢ iprop((St ins K c 2 3 0 0 -∗ Q (acc0 ins c 1))
      -∗ wpc c (on (k0_part5 (F := F)) c v6 (xv ins c) (wt0 ins c) (wt1 ins c) (ew0 ins c) (ew1 ins c)) Q) := by
  unfold on
  rw [k0_part5_eq_skeleton]; unfold k0_part5_skel
  simp only [Prog.lift, Prog.bind_op, Prog.bind_ret, Prog.pure_eq_ret]
  iintro H Hk
  iapply (step_send (k := (0, 0, 2)) (s := 2) rfl (by decide) (dev9 c) rfl rfl rfl rfl) $$ H; iintro H
  iapply (step_peek (b := (1, 0)) (l := 1) rfl) $$ H; iintro %v H
  iapply (step_fill (b := (1, 0)) (l := 1) rfl (by decide) (stored rfl)) $$ H; iintro H
  iapply (finish (by rfl)) $$ Hk; iexact H

theorem part6 {v7 v8 : BitVec 32} {Q : _ → sProp 𝕄} :
    St ins K c 2 3 0 0 ⊢ iprop((St ins K c 2 5 0 0 -∗ Q ⟨⟩) -∗ wpc c (on (k0_part6 (F := F)) c v7 v8) Q) := by
  unfold on
  rw [k0_part6_eq_skeleton]; unfold k0_part6_skel
  simp only [Prog.lift, Prog.bind_op, Prog.bind_ret, Prog.pure_eq_ret]
  iintro H Hk
  iapply (step_send (k := (1, 0, 0)) (s := 3) rfl (by decide) (dev10 c) rfl rfl rfl rfl) $$ H; iintro H
  iapply (step_send (k := (1, 0, 1)) (s := 4) rfl (by decide) (dev11 c) rfl rfl rfl rfl) $$ H; iintro H
  iapply (finish (by rfl)) $$ Hk; iexact H

theorem part7 {v3 : BitVec 32} {Q : _ → sProp 𝕄} :
    St ins K c 2 5 0 0 ⊢ iprop((St ins K c 3 7 0 0 -∗ Q (acc0 ins c 2))
      -∗ wpc c (on (k0_part7 (F := F)) c v3 (xv ins c) (wt0 ins c) (wt1 ins c) (ew0 ins c) (ew1 ins c)) Q) := by
  unfold on
  rw [k0_part7_eq_skeleton]; unfold k0_part7_skel
  simp only [Prog.lift, Prog.bind_op, Prog.bind_ret, Prog.pure_eq_ret]
  iintro H Hk
  iapply (step_send (k := (1, 0, 2)) (s := 5) rfl (by decide) (dev12 c) rfl rfl rfl rfl) $$ H; iintro H
  iapply (step_peek (b := (2, 0)) (l := 2) rfl) $$ H; iintro %v H
  iapply (step_fill (b := (2, 0)) (l := 2) rfl (by decide) (stored rfl)) $$ H; iintro H
  iapply (step_send (k := (2, 0, 0)) (s := 6) rfl (by decide) (dev13 c) rfl rfl rfl rfl) $$ H; iintro H
  iapply (finish (by rfl)) $$ Hk; iexact H

theorem part8 {v4 v5 : BitVec 32} {Q : _ → sProp 𝕄} :
    St ins K c 3 7 0 0 ⊢ iprop((St ins K c 3 9 0 0 -∗ Q ⟨k0_pay22 (F := F), k0_pay23 (xv ins c), k0_pay24 (wt0 ins c)⟩)
      -∗ wpc c (on (k0_part8 (F := F)) c v4 v5 (xv ins c) (wt0 ins c)) Q) := by
  unfold on
  rw [k0_part8_eq_skeleton]; unfold k0_part8_skel
  simp only [Prog.lift, Prog.bind_op, Prog.bind_ret, Prog.pure_eq_ret]
  iintro H Hk
  iapply (step_send (k := (2, 0, 1)) (s := 7) rfl (by decide) (dev14 c) rfl rfl rfl rfl) $$ H; iintro H
  iapply (step_send (k := (2, 0, 2)) (s := 8) rfl (by decide) (dev15 c) rfl rfl rfl rfl) $$ H; iintro H
  iapply (finish (by rfl)) $$ Hk; iexact H

theorem part9 {v6 : BitVec 32} {Q : _ → sProp 𝕄} :
    St ins K c 3 9 0 0 ⊢ iprop((St ins K c 4 10 0 0 -∗ Q (acc0 ins c 3))
      -∗ wpc c (on (k0_part9 (F := F)) c v6 (xv ins c) (wt1 ins c) (ew0 ins c) (ew1 ins c) k0_pay22 (k0_pay23 (xv ins c)) (k0_pay24 (wt0 ins c))) Q) := by
  unfold on
  rw [k0_part9_eq_skeleton]; unfold k0_part9_skel
  simp only [Prog.lift, Prog.bind_op, Prog.bind_ret, Prog.pure_eq_ret]
  iintro H Hk
  iapply (step_peek (b := (3, 0)) (l := 3) rfl) $$ H; iintro %v H
  iapply (step_fill (b := (3, 0)) (l := 3) rfl (by decide) (stored rfl)) $$ H; iintro H
  iapply (step_send (k := (3, 0, 0)) (s := 9) rfl (by decide) (dev16 c) rfl rfl rfl rfl) $$ H; iintro H
  iapply (finish (by rfl)) $$ Hk; iexact H

theorem part10 {v7 v8 : BitVec 32} {Q : _ → sProp 𝕄} :
    St ins K c 4 10 0 0 ⊢ iprop((St ins K c 4 12 0 0 -∗ Q ⟨⟩) -∗ wpc c (on (k0_part10 (F := F)) c v7 v8) Q) := by
  unfold on
  rw [k0_part10_eq_skeleton]; unfold k0_part10_skel
  simp only [Prog.lift, Prog.bind_op, Prog.bind_ret, Prog.pure_eq_ret]
  iintro H Hk
  iapply (step_send (k := (3, 0, 1)) (s := 10) rfl (by decide) (dev17 c) rfl rfl rfl rfl) $$ H; iintro H
  iapply (step_send (k := (3, 0, 2)) (s := 11) rfl (by decide) (dev18 c) rfl rfl rfl rfl) $$ H; iintro H
  iapply (finish (by rfl)) $$ Hk; iexact H

end Cert.Ep

end
-- ==== Proof.PartsB.lean ====
/-
# Parts, second third: the sums of phase 0 and the sends of phase 1

For each part of the body: from the state before it, it runs to the state after it and returns the values stated.
-/
module

public import proofs.«01_k».proof.Proof.PartsA

@[expose] public section

set_option maxRecDepth 16384

noncomputable section

namespace Cert.Ep

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable {ins : Dev nD → Ins F} {K : Dev nD × Kd → ℕ} {c : Dev nD}

theorem part11 {v3 v4 : BitVec 32} {Q : _ → sProp 𝕄} :
    St ins K c 4 12 0 0 ⊢ iprop((St ins K c 4 12 0 2 -∗ Q (psum ins c 0 2))
      -∗ wpc c (on (k0_part11 (F := F)) v3 v4 (psum ins c 0 0)) Q) := by
  unfold on
  rw [k0_part11_eq_skeleton]; unfold k0_part11_skel
  simp only [Prog.lift, Prog.bind_op, Prog.bind_ret, Prog.pure_eq_ret]
  iintro H Hk
  iapply (step_recv (k := (0, 0, 0)) (r := 0) rfl (by decide) rfl (by rfl)) $$ H; iintro H
  iapply (step_load (k := (0, 0, 0)) (by decide)) $$ H; iintro %v %hv H
  iapply (step_recv (k := (0, 0, 1)) (r := 1) rfl (by decide) rfl (by rfl)) $$ H; iintro H
  iapply (step_load (k := (0, 0, 1)) (by decide)) $$ H; iintro %w %hw H
  iapply (finish (by exact plus2 hv hw)) $$ Hk; iexact H

theorem part12 {v5 v6 : BitVec 32} {Q : _ → sProp 𝕄} :
    St ins K c 4 12 0 2 ⊢ iprop((St ins K c 5 12 0 3 -∗ Q (psum ins c 0 3))
      -∗ wpc c (on (k0_part12 (F := F)) v5 v6 (psum ins c 0 2)) Q) := by
  unfold on
  rw [k0_part12_eq_skeleton]; unfold k0_part12_skel
  simp only [Prog.lift, Prog.bind_op, Prog.bind_ret, Prog.pure_eq_ret]
  iintro H Hk
  iapply (step_recv (k := (0, 0, 2)) (r := 2) rfl (by decide) rfl (by rfl)) $$ H; iintro H
  iapply (step_load (k := (0, 0, 2)) (by decide)) $$ H; iintro %v %hv H
  iapply (step_peek (b := (0, 1)) (l := 4) rfl) $$ H; iintro %u H
  iapply (step_fill (b := (0, 1)) (l := 4) rfl (by decide) (stored (plus1 hv))) $$ H; iintro H
  iapply (finish (by exact plus1 hv)) $$ Hk; iexact H

theorem part13 {v7 v8 : BitVec 32} {Q : _ → sProp 𝕄} :
    St ins K c 5 12 0 3 ⊢ iprop((St ins K c 5 14 0 3 -∗ Q ⟨⟩)
      -∗ wpc c (on (k0_part13 (F := F)) c v7 v8) Q) := by
  unfold on
  rw [k0_part13_eq_skeleton]; unfold k0_part13_skel
  simp only [Prog.lift, Prog.bind_op, Prog.bind_ret, Prog.pure_eq_ret]
  iintro H Hk
  iapply (step_send (k := (0, 1, 0)) (s := 12) rfl (by decide) (dev19 c) rfl rfl rfl rfl) $$ H; iintro H
  iapply (step_send (k := (0, 1, 1)) (s := 13) rfl (by decide) (dev20 c) rfl rfl rfl rfl) $$ H; iintro H
  iapply (finish (by rfl)) $$ Hk; iexact H

theorem part14 {v3 v4 : BitVec 32} {Q : _ → sProp 𝕄} :
    St ins K c 5 14 0 3 ⊢ iprop((St ins K c 5 15 0 4 -∗ Q (psum ins c 2 1))
      -∗ wpc c (on (k0_part14 (F := F)) c v3 v4 (psum ins c 2 0)) Q) := by
  unfold on
  rw [k0_part14_eq_skeleton]; unfold k0_part14_skel
  simp only [Prog.lift, Prog.bind_op, Prog.bind_ret, Prog.pure_eq_ret]
  iintro H Hk
  iapply (step_send (k := (0, 1, 2)) (s := 14) rfl (by decide) (dev21 c) rfl rfl rfl rfl) $$ H; iintro H
  iapply (step_recv (k := (2, 0, 0)) (r := 3) rfl (by decide) rfl (by rfl)) $$ H; iintro H
  iapply (step_load (k := (2, 0, 0)) (by decide)) $$ H; iintro %v %hv H
  iapply (finish (by exact plus1 hv)) $$ Hk; iexact H

theorem part15 {v5 : BitVec 32} {Q : _ → sProp 𝕄} :
    St ins K c 5 15 0 4 ⊢ iprop((St ins K c 5 15 0 6 -∗ Q ⟨psum ins c 2 3, shapeCast S1x1x64x256 (rnd (psum ins c 2 3)) shapeCasts_S64x256_S1x1x64x256⟩)
      -∗ wpc c (on (k0_part15 (F := F)) v5 (psum ins c 2 1)) Q) := by
  unfold on
  rw [k0_part15_eq_skeleton]; unfold k0_part15_skel
  simp only [Prog.lift, Prog.bind_op, Prog.bind_ret, Prog.pure_eq_ret]
  iintro H Hk
  iapply (step_recv (k := (2, 0, 1)) (r := 4) rfl (by decide) rfl (by rfl)) $$ H; iintro H
  iapply (step_load (k := (2, 0, 1)) (by decide)) $$ H; iintro %v %hv H
  iapply (step_recv (k := (2, 0, 2)) (r := 5) rfl (by decide) rfl (by rfl)) $$ H; iintro H
  iapply (step_load (k := (2, 0, 2)) (by decide)) $$ H; iintro %w %hw H
  iapply (step_peek (b := (2, 1)) (l := 5) rfl) $$ H; iintro %u H
  iapply (finish (by rw [show k0_pay32 (psum ins c 2 1) v w = shapeCast S1x1x64x256 (rnd (k0_pay31 (psum ins c 2 1) v w)) shapeCasts_S64x256_S1x1x64x256 from rfl,
    show k0_pay31 (psum ins c 2 1) v w = psum ins c 2 3 from plus2 hv hw])) $$ Hk; iexact H

theorem part16 {v6 v7 : BitVec 32} {Q : _ → sProp 𝕄} :
    St ins K c 5 15 0 6 ⊢ iprop((St ins K c 6 17 0 6 -∗ Q ⟨⟩)
      -∗ wpc c (on (k0_part16 (F := F)) c v6 v7 (shapeCast S1x1x64x256 (rnd (psum ins c 2 3)) shapeCasts_S64x256_S1x1x64x256)) Q) := by
  unfold on
  rw [k0_part16_eq_skeleton]; unfold k0_part16_skel
  simp only [Prog.lift, Prog.bind_op, Prog.bind_ret, Prog.pure_eq_ret]
  iintro H Hk
  iapply (step_fill (b := (2, 1)) (l := 5) rfl (by decide) (stored rfl)) $$ H; iintro H
  iapply (step_send (k := (2, 1, 0)) (s := 15) rfl (by decide) (dev22 c) rfl rfl rfl rfl) $$ H; iintro H
  iapply (step_send (k := (2, 1, 1)) (s := 16) rfl (by decide) (dev23 c) rfl rfl rfl rfl) $$ H; iintro H
  iapply (finish (by rfl)) $$ Hk; iexact H

theorem part17 {v6 v8 : BitVec 32} {Q : _ → sProp 𝕄} :
    St ins K c 6 17 0 6 ⊢ iprop((St ins K c 6 18 0 7 -∗ Q (psum ins c 1 1))
      -∗ wpc c (on (k0_part17 (F := F)) c v6 v8 (psum ins c 1 0)) Q) := by
  unfold on
  rw [k0_part17_eq_skeleton]; unfold k0_part17_skel
  simp only [Prog.lift, Prog.bind_op, Prog.bind_ret, Prog.pure_eq_ret]
  iintro H Hk
  iapply (step_send (k := (2, 1, 2)) (s := 17) rfl (by decide) (dev24 c) rfl rfl rfl rfl) $$ H; iintro H
  iapply (step_recv (k := (1, 0, 0)) (r := 6) rfl (by decide) rfl (by rfl)) $$ H; iintro H
  iapply (step_load (k := (1, 0, 0)) (by decide)) $$ H; iintro %v %hv H
  iapply (finish (by exact plus1 hv)) $$ Hk; iexact H

theorem part18 {v7 v8 : BitVec 32} {Q : _ → sProp 𝕄} :
    St ins K c 6 18 0 7 ⊢ iprop((St ins K c 6 18 0 8 -∗ Q (psum ins c 1 2))
      -∗ wpc c (on (k0_part18 (F := F)) v7 v8 (psum ins c 1 1)) Q) := by
  unfold on
  rw [k0_part18_eq_skeleton]; unfold k0_part18_skel
  simp only [Prog.lift, Prog.bind_op, Prog.bind_ret, Prog.pure_eq_ret]
  iintro H Hk
  iapply (step_recv (k := (1, 0, 1)) (r := 7) rfl (by decide) rfl (by rfl)) $$ H; iintro H
  iapply (step_load (k := (1, 0, 1)) (by decide)) $$ H; iintro %v %hv H
  iapply (finish (by exact plus1 hv)) $$ Hk; iexact H

theorem part19 {v3 v4 : BitVec 32} {Q : _ → sProp 𝕄} :
    St ins K c 6 18 0 8 ⊢ iprop((St ins K c 7 19 0 9 -∗ Q ⟨psum ins c 1 3, Scalar.muli v4 1#32⟩)
      -∗ wpc c (on (k0_part19 (F := F)) c v3 v4 (psum ins c 1 2)) Q) := by
  unfold on
  rw [k0_part19_eq_skeleton]; unfold k0_part19_skel
  simp only [Prog.lift, Prog.bind_op, Prog.bind_ret, Prog.pure_eq_ret]
  iintro H Hk
  iapply (step_recv (k := (1, 0, 2)) (r := 8) rfl (by decide) rfl (by rfl)) $$ H; iintro H
  iapply (step_load (k := (1, 0, 2)) (by decide)) $$ H; iintro %v %hv H
  iapply (step_peek (b := (1, 1)) (l := 6) rfl) $$ H; iintro %u H
  iapply (step_fill (b := (1, 1)) (l := 6) rfl (by decide) (stored (plus1 hv))) $$ H; iintro H
  iapply (step_send (k := (1, 1, 0)) (s := 18) rfl (by decide) (dev25 c) rfl rfl rfl rfl) $$ H; iintro H
  iapply (finish (by rw [show k0_pay35 (psum ins c 1 2) v = psum ins c 1 3 from plus1 hv])) $$ Hk; iexact H

theorem part20 {v5 v6 z : BitVec 32} {Q : _ → sProp 𝕄} :
    St ins K c 7 19 0 9 ⊢ iprop((St ins K c 7 21 0 9 -∗ Q ⟨⟩)
      -∗ wpc c (on (k0_part20 (F := F)) c v5 v6 z) Q) := by
  unfold on
  rw [k0_part20_eq_skeleton]; unfold k0_part20_skel
  simp only [Prog.lift, Prog.bind_op, Prog.bind_ret, Prog.pure_eq_ret]
  iintro H Hk
  iapply (step_send (k := (1, 1, 1)) (s := 19) rfl (by decide) (dev26 c) rfl rfl rfl rfl) $$ H; iintro H
  iapply (step_send (k := (1, 1, 2)) (s := 20) rfl (by decide) (dev27 c) rfl rfl rfl rfl) $$ H; iintro H
  iapply (finish (by rfl)) $$ Hk; iexact H

theorem part21 {v7 : BitVec 32} {Q : _ → sProp 𝕄} :
    St ins K c 7 21 0 9 ⊢ iprop((St ins K c 7 21 0 11 -∗ Q (psum ins c 3 2))
      -∗ wpc c (on (k0_part21 (F := F)) v7 (psum ins c 3 0)) Q) := by
  unfold on
  rw [k0_part21_eq_skeleton]; unfold k0_part21_skel
  simp only [Prog.lift, Prog.bind_op, Prog.bind_ret, Prog.pure_eq_ret]
  iintro H Hk
  iapply (step_recv (k := (3, 0, 0)) (r := 9) rfl (by decide) rfl (by rfl)) $$ H; iintro H
  iapply (step_load (k := (3, 0, 0)) (by decide)) $$ H; iintro %v %hv H
  iapply (step_recv (k := (3, 0, 1)) (r := 10) rfl (by decide) rfl (by rfl)) $$ H; iintro H
  iapply (step_load (k := (3, 0, 1)) (by decide)) $$ H; iintro %w %hw H
  iapply (finish (by exact plus2 hv hw)) $$ Hk; iexact H

theorem part22 {v3 v8 : BitVec 32} {Q : _ → sProp 𝕄} :
    St ins K c 7 21 0 11 ⊢ iprop((St ins K c 8 21 0 12 -∗ Q (psum ins c 3 3))
      -∗ wpc c (on (k0_part22 (F := F)) v3 v8 (psum ins c 3 2)) Q) := by
  unfold on
  rw [k0_part22_eq_skeleton]; unfold k0_part22_skel
  simp only [Prog.lift, Prog.bind_op, Prog.bind_ret, Prog.pure_eq_ret]
  iintro H Hk
  iapply (step_recv (k := (3, 0, 2)) (r := 11) rfl (by decide) rfl (by rfl)) $$ H; iintro H
  iapply (step_load (k := (3, 0, 2)) (by decide)) $$ H; iintro %v %hv H
  iapply (step_peek (b := (3, 1)) (l := 7) rfl) $$ H; iintro %u H
  iapply (step_fill (b := (3, 1)) (l := 7) rfl (by decide) (stored (plus1 hv))) $$ H; iintro H
  iapply (finish (by exact plus1 hv)) $$ Hk; iexact H

theorem part23 {v4 v5 : BitVec 32} {Q : _ → sProp 𝕄} :
    St ins K c 8 21 0 12 ⊢ iprop((St ins K c 8 23 0 12 -∗ Q ⟨⟩)
      -∗ wpc c (on (k0_part23 (F := F)) c v4 v5) Q) := by
  unfold on
  rw [k0_part23_eq_skeleton]; unfold k0_part23_skel
  simp only [Prog.lift, Prog.bind_op, Prog.bind_ret, Prog.pure_eq_ret]
  iintro H Hk
  iapply (step_send (k := (3, 1, 0)) (s := 21) rfl (by decide) (dev28 c) rfl rfl rfl rfl) $$ H; iintro H
  iapply (step_send (k := (3, 1, 1)) (s := 22) rfl (by decide) (dev29 c) rfl rfl rfl rfl) $$ H; iintro H
  iapply (finish (by rfl)) $$ Hk; iexact H

end Cert.Ep

end
-- ==== Proof.PartsC.lean ====
/-
# Parts, last third: the sums of phase 1, the stores of the result, and the waits for the own transfers

For each part of the body: from the state before it, it runs to the state after it and returns the values stated.
-/
module

public import proofs.«01_k».proof.Proof.PartsB

@[expose] public section

set_option maxRecDepth 16384

noncomputable section

namespace Cert.Ep

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable {ins : Dev nD → Ins F} {K : Dev nD × Kd → ℕ} {c : Dev nD}

theorem part24 {v3 v4 : BitVec 32} {Q : _ → sProp 𝕄} :
    St ins K c 8 23 0 12 ⊢ iprop((St ins K c 8 24 0 13 -∗ Q (psum ins c 1 4))
      -∗ wpc c (on (k0_part24 (F := F)) c v3 v4 (psum ins c 1 3)) Q) := by
  unfold on
  rw [k0_part24_eq_skeleton]; unfold k0_part24_skel
  simp only [Prog.lift, Prog.bind_op, Prog.bind_ret, Prog.pure_eq_ret]
  iintro H Hk
  iapply (step_send (k := (3, 1, 2)) (s := 23) rfl (by decide) (dev30 c) rfl rfl rfl rfl) $$ H; iintro H
  iapply (step_recv (k := (1, 1, 0)) (r := 12) rfl (by decide) rfl (by rfl)) $$ H; iintro H
  iapply (step_load (k := (1, 1, 0)) (by decide)) $$ H; iintro %v %hv H
  iapply (finish (by exact plus1 hv)) $$ Hk; iexact H

theorem part25 {v5 : BitVec 32} {Q : _ → sProp 𝕄} :
    iprop(St ins K c 8 24 0 13 ∗ Out ins c 0) ⊢ iprop(((St ins K c 8 24 0 15 ∗ Out ins c 1) -∗ Q ⟨⟩)
      -∗ wpc c (on (k0_part25 (F := F)) v5 (psum ins c 1 4)) Q) := by
  unfold on
  rw [k0_part25_eq_skeleton]; unfold k0_part25_skel
  simp only [Prog.lift, Prog.bind_op, Prog.bind_ret, Prog.pure_eq_ret]
  iintro ⟨H, HO⟩ Hk
  iapply (step_recv (k := (1, 1, 1)) (r := 13) rfl (by decide) rfl (by rfl)) $$ H; iintro H
  iapply (step_load (k := (1, 1, 1)) (by decide)) $$ H; iintro %v %hv H
  iapply (step_recv (k := (1, 1, 2)) (r := 14) rfl (by decide) rfl (by rfl)) $$ H; iintro H
  iapply (step_load (k := (1, 1, 2)) (by decide)) $$ H; iintro %w %hw H
  iapply (out_peek (ch := 1)) $$ HO; iintro %u HO
  iapply (out_store (ch := 1) (n := 0) rfl (by exact plus2 hv hw)) $$ HO; iintro HO
  iapply (finish (by rfl)) $$ Hk
  isplitl [H]; · iexact H
  iexact HO

theorem part26 {v3 v4 : BitVec 32} {Q : _ → sProp 𝕄} :
    St ins K c 8 24 0 15 ⊢ iprop((St ins K c 8 24 0 17 -∗ Q (psum ins c 3 5))
      -∗ wpc c (on (k0_part26 (F := F)) v3 v4 (psum ins c 3 3)) Q) := by
  unfold on
  rw [k0_part26_eq_skeleton]; unfold k0_part26_skel
  simp only [Prog.lift, Prog.bind_op, Prog.bind_ret, Prog.pure_eq_ret]
  iintro H Hk
  iapply (step_recv (k := (3, 1, 0)) (r := 15) rfl (by decide) rfl (by rfl)) $$ H; iintro H
  iapply (step_load (k := (3, 1, 0)) (by decide)) $$ H; iintro %v %hv H
  iapply (step_recv (k := (3, 1, 1)) (r := 16) rfl (by decide) rfl (by rfl)) $$ H; iintro H
  iapply (step_load (k := (3, 1, 1)) (by decide)) $$ H; iintro %w %hw H
  iapply (finish (by exact plus2 hv hw)) $$ Hk; iexact H

theorem part27 {v5 v6 : BitVec 32} {Q : _ → sProp 𝕄} :
    iprop(St ins K c 8 24 0 17 ∗ Out ins c 1) ⊢ iprop(((St ins K c 8 24 0 18 ∗ Out ins c 2) -∗ Q ⟨⟩)
      -∗ wpc c (on (k0_part27 (F := F)) v5 v6 (psum ins c 3 5)) Q) := by
  unfold on
  rw [k0_part27_eq_skeleton]; unfold k0_part27_skel
  simp only [Prog.lift, Prog.bind_op, Prog.bind_ret, Prog.pure_eq_ret]
  iintro ⟨H, HO⟩ Hk
  iapply (step_recv (k := (3, 1, 2)) (r := 17) rfl (by decide) rfl (by rfl)) $$ H; iintro H
  iapply (step_load (k := (3, 1, 2)) (by decide)) $$ H; iintro %v %hv H
  iapply (out_peek (ch := 3)) $$ HO; iintro %u HO
  iapply (out_store (ch := 3) (n := 1) rfl (by exact plus1 hv)) $$ HO; iintro HO
  iapply (finish (by rfl)) $$ Hk
  isplitl [H]; · iexact H
  iexact HO

theorem part28 {v7 : BitVec 32} {Q : _ → sProp 𝕄} :
    St ins K c 8 24 0 18 ⊢ iprop((St ins K c 8 24 0 20 -∗ Q (psum ins c 0 5))
      -∗ wpc c (on (k0_part28 (F := F)) v7 (psum ins c 0 3)) Q) := by
  unfold on
  rw [k0_part28_eq_skeleton]; unfold k0_part28_skel
  simp only [Prog.lift, Prog.bind_op, Prog.bind_ret, Prog.pure_eq_ret]
  iintro H Hk
  iapply (step_recv (k := (0, 1, 0)) (r := 18) rfl (by decide) rfl (by rfl)) $$ H; iintro H
  iapply (step_load (k := (0, 1, 0)) (by decide)) $$ H; iintro %v %hv H
  iapply (step_recv (k := (0, 1, 1)) (r := 19) rfl (by decide) rfl (by rfl)) $$ H; iintro H
  iapply (step_load (k := (0, 1, 1)) (by decide)) $$ H; iintro %w %hw H
  iapply (finish (by exact plus2 hv hw)) $$ Hk; iexact H

theorem part29 {v6 v8 : BitVec 32} {Q : _ → sProp 𝕄} :
    iprop(St ins K c 8 24 0 20 ∗ Out ins c 2)
      ⊢ iprop((∀ v : Vec F S1x1x1x64x256 .bf16, ⌜shapeCast S64x256 v shapeCasts_S1x1x1x64x256_S64x256 = inb ins c (2, 1, 0)⌝ -∗ ((St ins K c 8 24 0 22 ∗ Out ins c 3) -∗ Q v))
      -∗ wpc c (on (k0_part29 (F := F)) v6 v8 (psum ins c 0 5)) Q) := by
  unfold on
  rw [k0_part29_eq_skeleton]; unfold k0_part29_skel
  simp only [Prog.lift, Prog.bind_op, Prog.bind_ret, Prog.pure_eq_ret]
  iintro ⟨H, HO⟩ Hk
  iapply (step_recv (k := (0, 1, 2)) (r := 20) rfl (by decide) rfl (by rfl)) $$ H; iintro H
  iapply (step_load (k := (0, 1, 2)) (by decide)) $$ H; iintro %v %hv H
  iapply (out_peek (ch := 0)) $$ HO; iintro %u HO
  iapply (out_store (ch := 0) (n := 2) rfl (by exact plus1 hv)) $$ HO; iintro HO
  iapply (step_recv (k := (2, 1, 0)) (r := 21) rfl (by decide) rfl (by rfl)) $$ H; iintro H
  iapply (step_load (k := (2, 1, 0)) (by decide)) $$ H; iintro %w %hw H
  ispecialize Hk $$ %w %hw
  iapply (finish (by rfl)) $$ Hk
  isplitl [H]; · iexact H
  iexact HO

theorem part30 {v7 v8 : BitVec 32} {v : Vec F S1x1x1x64x256 .bf16} (hv : shapeCast S64x256 v shapeCasts_S1x1x1x64x256_S64x256 = inb ins c (2, 1, 0)) {Q : _ → sProp 𝕄} :
    St ins K c 8 24 0 22 ⊢ iprop((St ins K c 8 24 0 23 -∗ Q (psum ins c 2 5))
      -∗ wpc c (on (k0_part30 (F := F)) v7 v8 (psum ins c 2 3) v) Q) := by
  unfold on
  rw [k0_part30_eq_skeleton]; unfold k0_part30_skel
  simp only [Prog.lift, Prog.bind_op, Prog.bind_ret, Prog.pure_eq_ret]
  iintro H Hk
  iapply (step_recv (k := (2, 1, 1)) (r := 22) rfl (by decide) rfl (by rfl)) $$ H; iintro H
  iapply (step_load (k := (2, 1, 1)) (by decide)) $$ H; iintro %w %hw H
  iapply (finish (by exact plus2 hv hw)) $$ Hk; iexact H

theorem part31 {Q : _ → sProp 𝕄} :
    iprop(St ins K c 8 24 0 23 ∗ Out ins c 3) ⊢ iprop(((St ins K c 8 24 1 24 ∗ Out ins c 4) -∗ Q ⟨⟩)
      -∗ wpc c (on (k0_part31 (F := F)) (psum ins c 2 5)) Q) := by
  unfold on
  rw [k0_part31_eq_skeleton]; unfold k0_part31_skel
  simp only [Prog.lift, Prog.bind_op, Prog.bind_ret, Prog.pure_eq_ret]
  iintro ⟨H, HO⟩ Hk
  iapply (step_recv (k := (2, 1, 2)) (r := 23) rfl (by decide) rfl (by rfl)) $$ H; iintro H
  iapply (step_load (k := (2, 1, 2)) (by decide)) $$ H; iintro %v %hv H
  iapply (out_peek (ch := 2)) $$ HO; iintro %u HO
  iapply (out_store (ch := 2) (n := 3) rfl (by exact plus1 hv)) $$ HO; iintro HO
  iapply (step_drain (k := (0, 0, 0)) (w := 0) rfl rfl (by rfl)) $$ H; iintro H
  iapply (finish (by rfl)) $$ Hk
  isplitl [H]; · iexact H
  iexact HO

theorem part32 {Q : _ → sProp 𝕄} :
    St ins K c 8 24 1 24 ⊢ iprop((St ins K c 8 24 4 24 -∗ Q ⟨⟩)
      -∗ wpc c (on (k0_part32 (F := F))) Q) := by
  unfold on
  rw [k0_part32_eq_skeleton]; unfold k0_part32_skel
  simp only [Prog.lift, Prog.bind_op, Prog.bind_ret, Prog.pure_eq_ret]
  iintro H Hk
  iapply (step_drain (k := (0, 0, 1)) (w := 1) rfl rfl (by rfl)) $$ H; iintro H
  iapply (step_drain (k := (0, 0, 2)) (w := 2) rfl rfl (by rfl)) $$ H; iintro H
  iapply (step_drain (k := (0, 1, 0)) (w := 3) rfl rfl (by rfl)) $$ H; iintro H
  iapply (finish (by rfl)) $$ Hk; iexact H

theorem part33 {Q : _ → sProp 𝕄} :
    St ins K c 8 24 4 24 ⊢ iprop((St ins K c 8 24 7 24 -∗ Q ⟨⟩)
      -∗ wpc c (on (k0_part33 (F := F))) Q) := by
  unfold on
  rw [k0_part33_eq_skeleton]; unfold k0_part33_skel
  simp only [Prog.lift, Prog.bind_op, Prog.bind_ret, Prog.pure_eq_ret]
  iintro H Hk
  iapply (step_drain (k := (0, 1, 1)) (w := 4) rfl rfl (by rfl)) $$ H; iintro H
  iapply (step_drain (k := (0, 1, 2)) (w := 5) rfl rfl (by rfl)) $$ H; iintro H
  iapply (step_drain (k := (1, 0, 0)) (w := 6) rfl rfl (by rfl)) $$ H; iintro H
  iapply (finish (by rfl)) $$ Hk; iexact H

theorem part34 {Q : _ → sProp 𝕄} :
    St ins K c 8 24 7 24 ⊢ iprop((St ins K c 8 24 9 24 -∗ Q ⟨⟩)
      -∗ wpc c (on (k0_part34 (F := F))) Q) := by
  unfold on
  rw [k0_part34_eq_skeleton]; unfold k0_part34_skel
  simp only [Prog.lift, Prog.bind_op, Prog.bind_ret, Prog.pure_eq_ret]
  iintro H Hk
  iapply (step_drain (k := (1, 0, 1)) (w := 7) rfl rfl (by rfl)) $$ H; iintro H
  iapply (step_drain (k := (1, 0, 2)) (w := 8) rfl rfl (by rfl)) $$ H; iintro H
  iapply (finish (by rfl)) $$ Hk; iexact H

theorem part35 {Q : _ → sProp 𝕄} :
    St ins K c 8 24 9 24 ⊢ iprop((St ins K c 8 24 12 24 -∗ Q ⟨⟩)
      -∗ wpc c (on (k0_part35 (F := F))) Q) := by
  unfold on
  rw [k0_part35_eq_skeleton]; unfold k0_part35_skel
  simp only [Prog.lift, Prog.bind_op, Prog.bind_ret, Prog.pure_eq_ret]
  iintro H Hk
  iapply (step_drain (k := (1, 1, 0)) (w := 9) rfl rfl (by rfl)) $$ H; iintro H
  iapply (step_drain (k := (1, 1, 1)) (w := 10) rfl rfl (by rfl)) $$ H; iintro H
  iapply (step_drain (k := (1, 1, 2)) (w := 11) rfl rfl (by rfl)) $$ H; iintro H
  iapply (finish (by rfl)) $$ Hk; iexact H

theorem part36 {Q : _ → sProp 𝕄} :
    St ins K c 8 24 12 24 ⊢ iprop((St ins K c 8 24 14 24 -∗ Q ⟨⟩)
      -∗ wpc c (on (k0_part36 (F := F))) Q) := by
  unfold on
  rw [k0_part36_eq_skeleton]; unfold k0_part36_skel
  simp only [Prog.lift, Prog.bind_op, Prog.bind_ret, Prog.pure_eq_ret]
  iintro H Hk
  iapply (step_drain (k := (2, 0, 0)) (w := 12) rfl rfl (by rfl)) $$ H; iintro H
  iapply (step_drain (k := (2, 0, 1)) (w := 13) rfl rfl (by rfl)) $$ H; iintro H
  iapply (finish (by rfl)) $$ Hk; iexact H

theorem part37 {Q : _ → sProp 𝕄} :
    St ins K c 8 24 14 24 ⊢ iprop((St ins K c 8 24 17 24 -∗ Q ⟨⟩)
      -∗ wpc c (on (k0_part37 (F := F))) Q) := by
  unfold on
  rw [k0_part37_eq_skeleton]; unfold k0_part37_skel
  simp only [Prog.lift, Prog.bind_op, Prog.bind_ret, Prog.pure_eq_ret]
  iintro H Hk
  iapply (step_drain (k := (2, 0, 2)) (w := 14) rfl rfl (by rfl)) $$ H; iintro H
  iapply (step_drain (k := (2, 1, 0)) (w := 15) rfl rfl (by rfl)) $$ H; iintro H
  iapply (step_drain (k := (2, 1, 1)) (w := 16) rfl rfl (by rfl)) $$ H; iintro H
  iapply (finish (by rfl)) $$ Hk; iexact H

theorem part38 {Q : _ → sProp 𝕄} :
    St ins K c 8 24 17 24 ⊢ iprop((St ins K c 8 24 20 24 -∗ Q ⟨⟩)
      -∗ wpc c (on (k0_part38 (F := F))) Q) := by
  unfold on
  rw [k0_part38_eq_skeleton]; unfold k0_part38_skel
  simp only [Prog.lift, Prog.bind_op, Prog.bind_ret, Prog.pure_eq_ret]
  iintro H Hk
  iapply (step_drain (k := (2, 1, 2)) (w := 17) rfl rfl (by rfl)) $$ H; iintro H
  iapply (step_drain (k := (3, 0, 0)) (w := 18) rfl rfl (by rfl)) $$ H; iintro H
  iapply (step_drain (k := (3, 0, 1)) (w := 19) rfl rfl (by rfl)) $$ H; iintro H
  iapply (finish (by rfl)) $$ Hk; iexact H

theorem part39 {Q : _ → sProp 𝕄} :
    St ins K c 8 24 20 24 ⊢ iprop((St ins K c 8 24 22 24 -∗ Q ⟨⟩)
      -∗ wpc c (on (k0_part39 (F := F))) Q) := by
  unfold on
  rw [k0_part39_eq_skeleton]; unfold k0_part39_skel
  simp only [Prog.lift, Prog.bind_op, Prog.bind_ret, Prog.pure_eq_ret]
  iintro H Hk
  iapply (step_drain (k := (3, 0, 2)) (w := 20) rfl rfl (by rfl)) $$ H; iintro H
  iapply (step_drain (k := (3, 1, 0)) (w := 21) rfl rfl (by rfl)) $$ H; iintro H
  iapply (finish (by rfl)) $$ Hk; iexact H

end Cert.Ep

end
-- ==== Proof.Body.lean ====
/-
# Body: the parts, run one after another

From what a device holds at the start, the body runs to the state in which every transfer has been sent, received and waited
for, and the result is stored.
-/
module

public import proofs.«01_k».proof.Proof.PartsC

@[expose] public section

set_option maxRecDepth 16384

noncomputable section

namespace Cert.Ep

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable {ins : Dev nD → Ins F} {K : Dev nD × Kd → ℕ} {c : Dev nD}
variable {X : Vec F S256x128 .bf16} {W : Vec F S128x32 .bf16} {I : Vec F S256x2 .i32} {E : Vec F S2x128x256 .bf16}

/-- A program that returns at once. -/
theorem wpc_ret {α : Type} {Q : α → sProp 𝕄} (a : α) : Q a ⊢ wpc c (Prog.ret a : Prog (TpuEff nD τ sig (Elt F) Λ₀ .tc) α) Q := by
  unfold wpc
  iintro H
  rw [wp_ret]; imodintro
  iexact H

/-- The whole body. -/
theorem body_run (hi : ins c = insOf X W I E) {Q : PUnit → sProp 𝕄} :
    iprop(Pre ins K c 0 ∗ (pts c cc0_stg0_0 X ∗ pts c cc0_stg1_0 W ∗ pts c cc0_stg2_0 I ∗ pts c cc0_stg3_0 E) ∗ Out ins c 0)
      ⊢ iprop(((St ins K c 8 24 24 24 ∗ (pts c cc0_stg0_0 X ∗ pts c cc0_stg1_0 W ∗ pts c cc0_stg2_0 I ∗ pts c cc0_stg3_0 E) ∗ Out ins c 4) -∗ Q ⟨⟩)
      -∗ wpc c (on (cc0_body (F := F))) Q) := by
  unfold on
  rw [cc0_body_eq_skeleton]; unfold cc0_body_skel
  rw [k0_part40_eq_skeleton]; unfold k0_part40_skel
  simp only [Prog.lift, Prog.bind_op, Prog.bind_ret, Prog.pure_eq_ret, wp_bind]
  iintro ⟨H, ⟨HX, HW, HI, HE⟩, HO⟩ Hk
  iapply (part1 hi) $$ [H HX]
  · isplitl [H]; · iexact H
    iexact HX
  iintro ⟨H, HX⟩
  iapply (part2 hi) $$ [HW HI]
  · isplitl [HW]; · iexact HW
    iexact HI
  iintro ⟨HW, HI⟩
  iapply (part3 hi) $$ [H HE]
  · isplitl [H]; · iexact H
    iexact HE
  iintro ⟨H, HE⟩
  iapply part4 $$ H; iintro H
  iapply part5 $$ H; iintro H
  iapply part6 $$ H; iintro H
  iapply part7 $$ H; iintro H
  iapply part8 $$ H; iintro H
  iapply part9 $$ H; iintro H
  iapply part10 $$ H; iintro H
  iapply part11 $$ H; iintro H
  iapply part12 $$ H; iintro H
  iapply part13 $$ H; iintro H
  iapply part14 $$ H; iintro H
  iapply part15 $$ H; iintro H
  iapply part16 $$ H; iintro H
  iapply part17 $$ H; iintro H
  iapply part18 $$ H; iintro H
  iapply part19 $$ H; iintro H
  iapply part20 $$ H; iintro H
  iapply part21 $$ H; iintro H
  iapply part22 $$ H; iintro H
  iapply part23 $$ H; iintro H
  iapply part24 $$ H; iintro H
  iapply part25 $$ [H HO]
  · isplitl [H]; · iexact H
    iexact HO
  iintro ⟨H, HO⟩
  iapply part26 $$ H; iintro H
  iapply part27 $$ [H HO]
  · isplitl [H]; · iexact H
    iexact HO
  iintro ⟨H, HO⟩
  iapply part28 $$ H; iintro H
  iapply part29 $$ [H HO]
  · isplitl [H]; · iexact H
    iexact HO
  iintro %v %hv ⟨H, HO⟩
  iapply (part30 hv) $$ H; iintro H
  iapply part31 $$ [H HO]
  · isplitl [H]; · iexact H
    iexact HO
  iintro ⟨H, HO⟩
  iapply part32 $$ H; iintro H
  iapply part33 $$ H; iintro H
  iapply part34 $$ H; iintro H
  iapply part35 $$ H; iintro H
  iapply part36 $$ H; iintro H
  iapply part37 $$ H; iintro H
  iapply part38 $$ H; iintro H
  iapply part39 $$ H; iintro H
  iapply (step_drain (k := (3, 1, 1)) (w := 22) rfl rfl (by rfl)) $$ H; iintro H
  iapply wpc_ret
  iapply (step_drain (k := (3, 1, 2)) (w := 23) rfl rfl (by rfl)) $$ H; iintro H
  iapply (finish (by rfl)) $$ Hk
  isplitl [H]; · iexact H
  isplitl [HX HW HI HE]
  · isplitl [HX]; · iexact HX
    isplitl [HW]; · iexact HW
    isplitl [HI]; · iexact HI
    iexact HE
  iexact HO

end Cert.Ep

end
-- ==== Proof.Ghost.lean ====
/-
# Ghost: what the launch deals, and how it is shared out among the devices

Every device's cells are opened at once. Each device keeps its own positions and gets the tokens of the duties that it
pays: the barrier signals to its partners, the leaving of its own transfers, and their arriving at its partners.
-/
module

public import proofs.«01_k».proof.Proof.Start

@[expose] public section

set_option maxRecDepth 16384

noncomputable section

namespace Cert.Ep

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ins : Dev nD → Ins F)

/-! ## Cells and tokens -/

/-- The kernel's own semaphores: those of its transfers. -/
abbrev osem (bk : Bool × Slot) : SemLoc sig := csem (some bk)

theorem ownSemFacts : Pipeline.OwnSemFacts cfg0.spec osem where
  isScoped := by decide
  inj a b h := Option.some_inj.mp (csem_inj h)
  disj k w s h := by
    have hk : kindOf (osem k) = some (some k) := kindOf_csem (some k)
    rw [h] at hk
    revert hk
    fin_cases w <;> fin_cases s <;> (intro hk; cases hk)

/-- The cells of all devices. -/
def allCells : Finset (GSem nD τ sig) := Finset.univ.map ⟨cell, cell_injective⟩

/-- A token of a duty of a cell. -/
abbrev tokOf (x : (Dev nD × Kd) × Fin 6) : GSem nD τ sig × ℕ × Fin 6 := (cell x.1, 0, x.2)
theorem tokOf_injective : Function.Injective tokOf := fun a b h =>
  Prod.ext (cell_injective (congrArg (fun x : GSem nD τ sig × ℕ × Fin 6 => x.1) h)) (congrArg (fun x : GSem nD τ sig × ℕ × Fin 6 => x.2.2) h)
/-- The tokens of all duties. -/
def allToks : Finset (GSem nD τ sig × ℕ × Fin 6) := Finset.univ.map ⟨tokOf, tokOf_injective⟩

/-- The launch element. -/
def u₀ : UU := (initOf (Pipeline.cells cfgs cellOf_inj) (Pipeline.launchToks cfgs cellOf_inj), initOf allCells allToks)

/-- A conjunction over the kinds of cells of a device: the barrier, the send cells, the receive cells. -/
theorem bigSep_kd (Φ : Kd → sProp 𝕄) :
    bigSep Finset.univ Φ = iprop(Φ none ∗ (bigSep Finset.univ fun k : Slot => Φ (some (false, k))) ∗ bigSep Finset.univ fun k : Slot => Φ (some (true, k))) := by
  rw [bigSep_univ_at Φ none, show (Finset.univ.erase (none : Kd)) = Finset.univ.map ⟨some, Option.some_injective _⟩ from by decide, bigSep_map,
    bigSep_univ_prod, bigSep_univ_eq_bigSepL [false, true] (by decide) (by decide)]
  rfl

/-- The tokens of a device's own cells. -/
def toks (c : Dev nD) : sProp 𝕄 := bigSep Finset.univ fun kd : Kd => bigSep Finset.univ fun d : Fin 6 => dutyTok ER (cell (c, kd)) 0 d

/-- What the launch element gives device `c`. -/
def G (c : Dev nD) : sProp 𝕄 :=
  iprop((bigSep Finset.univ fun kd : Kd => roundState ER (Rd ins) (cell (c, kd)) 0)
    ∗ (bigSep Finset.univ fun kd : Kd => iprop(atPos ER (cell (c, kd)) 0 ∅ 0 ∗ reached ER (cell (c, kd)) 0)) ∗ toks c)

theorem fund_cells : BI.own (ER (initOf allCells allToks)) ⊢ (|==> bigSep Finset.univ (G ins) : sProp 𝕄) := by
  have hX (Φ : GSem nD τ sig → sProp 𝕄) : bigSep allCells Φ = bigSep Finset.univ fun c : Dev nD => bigSep Finset.univ fun kd : Kd => Φ (cell (c, kd)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (Rd ins) allCells allToks) $$ HX with ⟨Hst, Hr, Hat, Htok⟩
  imodintro
  ihave Hst' := (Entails.of_eq (hX fun g => roundState ER (Rd ins) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop((bigSep Finset.univ fun k : Slot => semVal (sendCell c k) 0) ∗ bigSep Finset.univ fun k : Slot => semVal (recvCell c k) 0) := by
  unfold Pipeline.ownSems0
  rw [bigSep_univ_prod, bigSep_univ_eq_bigSepL [false, true] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun kd : Kd => semVal (cell (c, kd)) 0 : sProp 𝕄) := by
  rw [ownSems0_eq, unscopedSems0_eq, bigSep_kd]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G ins c)
      ⊢ |={Set.univ}=> iprop((bigSep Finset.univ fun kd => iprop(∃ κ : ℕ, cellInv ER (Rd ins) κ (cell (c, kd))))
          ∗ (bigSep Finset.univ fun kd => iprop(atPos ER (cell (c, kd)) 0 ∅ 0 ∗ reached ER (cell (c, kd)) 0)) ∗ toks c) := by
  have h : iprop((bigSep Finset.univ fun kd : Kd => semVal (cell (c, kd)) 0) ∗ bigSep Finset.univ fun kd : Kd => roundState ER (Rd ins) (cell (c, kd)) 0)
      ⊢ (|={Set.univ}=> bigSep Finset.univ fun kd => iprop(∃ κ : ℕ, cellInv ER (Rd ins) κ (cell (c, kd))) : sProp 𝕄) := by
    rw [← bigSep_sep']
    exact (bigSep_mono fun kd _ => (Rounds.body_intro ER (Rd ins) (cell (c, kd))).trans inv_alloc).trans (bigSep_fupd _ _)
  unfold G
  iintro ⟨Hos, Hus, Hst, Hat, Htok⟩
  ihave Hv := (sems0_eq (F := F) c) $$ [Hos Hus]
  · isplitl [Hos] <;> iassumption
  imod h $$ [Hv Hst] with Hinv
  · isplitl [Hv] <;> iassumption
  imodintro
  isplitl [Hinv]; · iexact Hinv
  isplitl [Hat]; · iexact Hat
  iexact Htok

/-! ## The tokens shared out -/

/-- The tokens of the duties that device `c` pays. -/
def payToks (c : Dev nD) : sProp 𝕄 :=
  iprop((bigSep Finset.univ fun m : Fin 6 => dutyTok ER (barCell (par m c)) 0 m)
    ∗ (bigSep Finset.univ fun k : Slot => dutyTok ER (sendCell c k) 0 0) ∗ bigSep Finset.univ fun k : Slot => dutyTok ER (recvCell (peer k c) k) 0 0)

/-- What stays with device `c`: its positions and those tokens. -/
def linear (c : Dev nD) : sProp 𝕄 :=
  iprop((atPos ER (barCell c) 0 ∅ 0 ∗ (bigSep Finset.univ fun k : Slot => atPos ER (sendCell c k) 0 ∅ 0) ∗ bigSep Finset.univ fun k : Slot => atPos ER (recvCell c k) 0 ∅ 0)
    ∗ payToks c)

/-- A family over the devices and another index, the devices permuted for each value of that index. -/
theorem around {I : Type} [Fintype I] (e : I → Dev nD ≃ Dev nD) (Φ : Dev nD → I → sProp 𝕄) :
    (bigSep Finset.univ fun c : Dev nD => bigSep Finset.univ fun i : I => Φ c i) = bigSep Finset.univ fun c : Dev nD => bigSep Finset.univ fun i : I => Φ (e i c) i := by
  rw [bigSep_univ_comm, bigSep_univ_comm (fun (c : Dev nD) (i : I) => Φ (e i c) i)]
  exact bigSep_congr fun i _ => bigSep_univ_equiv (e i) fun c => Φ c i

theorem first_duty (g : GSem nD τ sig) : (bigSep Finset.univ fun d : Fin 6 => (dutyTok ER g 0 d : sProp 𝕄)) ⊢ dutyTok ER g 0 0 := bigSep_elim (Finset.mem_univ 0)

theorem toks_around : (bigSep Finset.univ fun c : Dev nD => (toks c : sProp 𝕄)) ⊢ bigSep Finset.univ fun c : Dev nD => payToks c := by
  have h (c : Dev nD) : (toks c : sProp 𝕄) ⊢ iprop((bigSep Finset.univ fun m : Fin 6 => dutyTok ER (barCell c) 0 m)
      ∗ (bigSep Finset.univ fun k : Slot => dutyTok ER (sendCell c k) 0 0) ∗ bigSep Finset.univ fun k : Slot => dutyTok ER (recvCell c k) 0 0) := by
    unfold toks
    rw [bigSep_kd]
    exact sep_mono_right (BI.sep_mono (bigSep_mono fun k _ => first_duty _) (bigSep_mono fun k _ => first_duty _))
  refine (bigSep_mono fun c _ => h c).trans (show (_ : sProp 𝕄) ⊢ _ from Entails.of_eq ?_)
  unfold payToks
  rw [bigSep_sep', bigSep_sep', bigSep_sep', bigSep_sep', around parEquiv (fun c m => (dutyTok ER (barCell c) 0 m : sProp 𝕄)),
    around (fun k : Slot => parEquiv (msk k)) (fun c k => (dutyTok ER (recvCell c k) 0 0 : sProp 𝕄))]
  rfl

/-- The invariants under their names, and that every cell has reached its round. -/
def opened (K : Dev nD × Kd → ℕ) : sProp 𝕄 :=
  iprop((bigSep Finset.univ fun ck : Dev nD × Kd => cellInv ER (Rd ins) (K ck) (cell ck)) ∗ bigSep Finset.univ fun ck : Dev nD × Kd => reached ER (cell ck) 0)

instance opened_persistent (K : Dev nD × Kd → ℕ) : BI.Persistent (opened ins K) := by unfold opened; infer_instance

/-- What the global step gives device `c`. -/
def G' (c : Dev nD) : sProp 𝕄 := iprop(∃ K, opened ins K ∗ linear c)

theorem with_opened {K : Dev nD × Kd → ℕ} (c : Dev nD) : iprop(opened ins K ∗ linear c) ⊢ G' ins c := by
  unfold G'; iintro H; iexists K; iexact H

theorem persistent_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun kd => iprop(∃ κ : ℕ, cellInv ER (Rd ins) κ (cell (c, kd))))
          ∗ (bigSep Finset.univ fun kd => iprop(atPos ER (cell (c, kd)) 0 ∅ 0 ∗ reached ER (cell (c, kd)) 0)) ∗ toks c) : sProp 𝕄)
      ⊢ bigSep Finset.univ (G' ins) := by
  rw [bigSep_sep', bigSep_sep', ← bigSep_univ_prod (fun ck : Dev nD × Kd => iprop(∃ κ : ℕ, cellInv ER (Rd ins) κ (cell ck))),
    bigSep_congr (s := Finset.univ) (fun (c : Dev nD) _ => bigSep_sep' Finset.univ (fun kd : Kd => (atPos ER (cell (c, kd)) 0 ∅ 0 : sProp 𝕄)) (fun kd => reached ER (cell (c, kd)) 0)),
    bigSep_sep', ← bigSep_univ_prod (fun ck : Dev nD × Kd => (reached ER (cell ck) 0 : sProp 𝕄))]
  iintro ⟨HI, ⟨Hat, #HR⟩, Htok⟩
  ihave HK := (BI.bigSep_exists_pi Finset.univ (fun (ck : Dev nD × Kd) (κ : ℕ) => (cellInv ER (Rd ins) κ (cell ck) : sProp 𝕄))) $$ HI
  icases HK with ⟨%K, #HI⟩
  ihave Htk := (toks_around (F := F)) $$ Htok
  iapply (persistent_each (R := opened ins K) fun c _ => with_opened ins c)
  isplitr
  · unfold opened; isplitl; · iexact HI
    iexact HR
  · have h : iprop((bigSep Finset.univ fun c : Dev nD => bigSep Finset.univ fun kd : Kd => (atPos ER (cell (c, kd)) 0 ∅ 0 : sProp 𝕄)) ∗ bigSep Finset.univ payToks)
        ⊢ bigSep Finset.univ (linear (F := F)) := by
      rw [← bigSep_sep']
      exact bigSep_mono fun c _ => show _ ⊢ linear c from Entails.of_eq (by unfold linear; rw [bigSep_kd])
    iapply h
    isplitl [Hat]; · iexact Hat
    iexact Htk

/-- All devices' cells opened at once. -/
theorem glob : (bigSep Finset.univ fun c => iprop(Pipeline.ownSems0 (Ix := Unit) (Name := ℕ) (U := UU) (Lvl := ℕ) (Val := Elt F) (τ := τ) osem c ∗ unscopedSems0 c ∗ G ins c) : sProp 𝕄)
    ⊢ |={Set.univ}=> bigSep Finset.univ (G' ins) :=
  ((bigSep_mono fun c _ => core_alloc ins c).trans (bigSep_fupd _ _)).trans (BI.fupd_mono (regroup ins))

/-! ## The credit -/

theorem cell_eq_iff {c c' : Dev nD} {a b : Kd} : Iff (cell (c, a) = cell (c', b)) (c = c' ∧ a = b) :=
  ⟨fun h => Prod.mk.injEq _ _ _ _ ▸ cell_injective h, fun h => by rw [h.1, h.2]⟩

theorem par_flip {m : Fin 6} {c d : Dev nD} : Iff (c = par m d) (d = par m c) :=
  ⟨fun h => by rw [h, par_par], fun h => by rw [h, par_par]⟩

theorem all_sends (d : Dev nD) : Osend d 0 = ∑ k : Slot, tallyAt (recvCell (peer k d) k) () N :=
  Finset.sum_congr rfl fun k _ => if_pos (Nat.zero_le _)
theorem all_signals (d : Dev nD) : Obar d 0 = ∑ m : Fin 6, tallyAt (barCell (par m d)) () 1 :=
  Finset.sum_congr rfl fun m _ => if_pos (Nat.zero_le _)

/-- All devices together owe a barrier cell six units, -/
theorem launch_bar (c : Dev nD) :
    tallyOn (barCell c) (launchCredit (Pipeline.owing O₀) 0 (barCell c)) = (tallyAt (barCell c) () 6 : CellTallies nD τ sig Unit) := by
  have h (d : Dev nD) : O₀ d (barCell c) () = ∑ m : Fin 6, if d = par m c then 1 else 0 := by
    unfold O₀
    rw [all_sends, all_signals, Pi.add_apply, Finsupp.add_apply, Finset.sum_apply, Finset.sum_apply, Finsupp.finset_sum_apply, Finsupp.finset_sum_apply,
      Finset.sum_eq_zero (fun k _ => by rw [tallyAt_apply, if_neg (fun h => by have := (cell_eq_iff.mp h.1).2; cases this)]), zero_add]
    exact Finset.sum_congr rfl fun m _ => by
      rw [tallyAt_apply]
      exact if_congr ⟨fun h => par_flip.mp (cell_eq_iff.mp h.1).1, fun h => ⟨cell_eq_iff.mpr ⟨par_flip.mpr h, rfl⟩, rfl⟩⟩ rfl rfl
  unfold tallyAt; refine congrArg _ (Finsupp.ext fun u => ?_); cases u
  rw [Pipeline.launchCredit_owing, Finsupp.single_eq_same, Finset.sum_congr rfl fun d _ => h d, Finset.sum_comm,
    Finset.sum_congr rfl fun m _ => (Finset.sum_ite_eq' Finset.univ (par m c) fun _ => 1).trans (if_pos (Finset.mem_univ _))]
  rfl

/-- and a receive cell one transfer's count. -/
theorem launch_recv (c : Dev nD) (k : Slot) :
    tallyOn (recvCell c k) (launchCredit (Pipeline.owing O₀) 0 (recvCell c k)) = (tallyAt (recvCell c k) () N : CellTallies nD τ sig Unit) := by
  have h (d : Dev nD) : O₀ d (recvCell c k) () = if d = peer k c then N else 0 := by
    unfold O₀
    rw [all_sends, all_signals, Pi.add_apply, Finsupp.add_apply, Finset.sum_apply, Finset.sum_apply, Finsupp.finset_sum_apply, Finsupp.finset_sum_apply,
      Finset.sum_eq_zero (s := (Finset.univ : Finset (Fin 6))) (fun m _ => by rw [tallyAt_apply, if_neg (fun h => by have := (cell_eq_iff.mp h.1).2; cases this)]), add_zero,
      Finset.sum_eq_single k]
    · rw [tallyAt_apply]
      exact if_congr ⟨fun h => par_flip.mp (cell_eq_iff.mp h.1).1, fun h => ⟨cell_eq_iff.mpr ⟨par_flip.mpr h, rfl⟩, rfl⟩⟩ rfl rfl
    · intro k' _ hk'
      rw [tallyAt_apply, if_neg (fun h => by
        have h2 : (some (true, k) : Kd) = some (true, k') := (cell_eq_iff.mp h.1).2
        exact hk' (congrArg Prod.snd (Option.some_inj.mp h2)).symm)]
    · exact fun h => absurd (Finset.mem_univ _) h
  unfold tallyAt; refine congrArg _ (Finsupp.ext fun u => ?_); cases u
  rw [Pipeline.launchCredit_owing, Finsupp.single_eq_same, Finset.sum_congr rfl fun d _ => h d]
  exact (Finset.sum_ite_eq' Finset.univ (peer k c) fun _ => N).trans (if_pos (Finset.mem_univ _))

/-- The credit that device `c` starts from. -/
theorem creds (c : Dev nD) :
    (Pipeline.launchCred O₀ c : sProp 𝕄) ⊢ iprop(cred (tallyAt (barCell c) () 6) ∗ bigSep Finset.univ fun k : Slot => cred (tallyAt (recvCell c k) () N)) := by
  unfold Pipeline.launchCred
  have h : iprop(bigSep (Finset.univ.map ⟨csem, fun _ _ => csem_inj⟩) fun sm : SemLoc sig =>
        cred (tallyOn ((c.tc : Thread nD τ), sm) (launchCredit (Pipeline.owing O₀) 0 ((c.tc : Thread nD τ), sm))))
      ⊢ (iprop(cred (tallyAt (barCell c) () 6) ∗ bigSep Finset.univ fun k : Slot => cred (tallyAt (recvCell c k) () N)) : sProp 𝕄) := by
    rw [bigSep_map, bigSep_kd]
    iintro ⟨H, -, H'⟩
    isplitl [H]
    · iapply (Entails.of_eq (congrArg cred (launch_bar c))); iexact H
    · iapply (Entails.of_eq (bigSep_congr fun k _ => congrArg cred (launch_recv c k))); iexact H'
  exact (bigSep_subset (Finset.subset_univ _)).trans h

end Cert.Ep

end
-- ==== Proof.Buffers.lean ====
/-
# Buffers: the two scratch buffers as the slots that they consist of
-/
module

public import proofs.«01_k».proof.Proof.State
public import Idealize.ShloMosaic.Lib.Ring

@[expose] public section

set_option maxRecDepth 16384

noncomputable section

namespace Cert.Ep

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The elements of a slot -/

theorem src_set (s : Src) : (srcM s).view.set = (srcR s).set := (View.set_reshape _ _).trans (View.set_slice_whole _ _)
theorem dst_set (k : Slot) : (dstM k).view.set = (dstR k).set := (View.set_reshape _ _).trans (View.set_slice_whole _ _)

/-- An element of the send buffer lies in the source buffer that its first two coordinates name, -/
theorem mem_src (s : Src) (i : S4x2x64x256.Idx) : Iff (i ∈ (srcR s).set) ((i 0).val = s.1.val ∧ (i 1).val = s.2.val) := by
  rw [Rect.mem_set_unit]
  constructor
  · intro h
    have h0 : s.1.val ≤ (i 0).val ∧ (i 0).val < s.1.val + 1 := h 0
    have h1 : s.2.val ≤ (i 1).val ∧ (i 1).val < s.2.val + 1 := h 1
    omega
  · rintro ⟨h0, h1⟩ a
    have h2 : (i 2).val < 64 := (i 2).isLt
    have h3 : (i 3).val < 256 := (i 3).isLt
    match a with
    | ⟨0, _⟩ => show s.1.val ≤ (i 0).val ∧ (i 0).val < s.1.val + 1; omega
    | ⟨1, _⟩ => show s.2.val ≤ (i 1).val ∧ (i 1).val < s.2.val + 1; omega
    | ⟨2, _⟩ => show 0 ≤ (i 2).val ∧ (i 2).val < 0 + 64; omega
    | ⟨3, _⟩ => show 0 ≤ (i 3).val ∧ (i 3).val < 0 + 256; omega

/-- and one of the receive buffer in the slot that its first three name. -/
theorem mem_dst (k : Slot) (i : S4x2x3x64x256.Idx) : Iff (i ∈ (dstR k).set) ((i 0).val = k.1.val ∧ (i 1).val = k.2.1.val ∧ (i 2).val = k.2.2.val) := by
  rw [Rect.mem_set_unit]
  constructor
  · intro h
    have h0 : k.1.val ≤ (i 0).val ∧ (i 0).val < k.1.val + 1 := h 0
    have h1 : k.2.1.val ≤ (i 1).val ∧ (i 1).val < k.2.1.val + 1 := h 1
    have h2 : k.2.2.val ≤ (i 2).val ∧ (i 2).val < k.2.2.val + 1 := h 2
    omega
  · rintro ⟨h0, h1, h2⟩ a
    have h3 : (i 3).val < 64 := (i 3).isLt
    have h4 : (i 4).val < 256 := (i 4).isLt
    match a with
    | ⟨0, _⟩ => show k.1.val ≤ (i 0).val ∧ (i 0).val < k.1.val + 1; omega
    | ⟨1, _⟩ => show k.2.1.val ≤ (i 1).val ∧ (i 1).val < k.2.1.val + 1; omega
    | ⟨2, _⟩ => show k.2.2.val ≤ (i 2).val ∧ (i 2).val < k.2.2.val + 1; omega
    | ⟨3, _⟩ => show 0 ≤ (i 3).val ∧ (i 3).val < 0 + 64; omega
    | ⟨4, _⟩ => show 0 ≤ (i 4).val ∧ (i 4).val < 0 + 256; omega

theorem src_disjoint : ∀ s s' : Src, s ≠ s' → Disjoint (srcR s).set (srcR s').set := fun s s' h => by
  rw [Finset.disjoint_left]
  intro i hi hi'
  have h1 := (mem_src s i).mp hi
  have h2 := (mem_src s' i).mp hi'
  exact h (Prod.ext (Fin.ext (h1.1.symm.trans h2.1)) (Fin.ext (h1.2.symm.trans h2.2)))
theorem dst_disjoint : ∀ k k' : Slot, k ≠ k' → Disjoint (dstR k).set (dstR k').set := fun k k' h => by
  rw [Finset.disjoint_left]
  intro i hi hi'
  have h1 := (mem_dst k i).mp hi
  have h2 := (mem_dst k' i).mp hi'
  exact h (Prod.ext (Fin.ext (h1.1.symm.trans h2.1)) (Prod.ext (Fin.ext (h1.2.1.symm.trans h2.2.1)) (Fin.ext (h1.2.2.symm.trans h2.2.2))))

theorem src_cover : Finset.univ.biUnion (fun s : Src => (srcR s).set) = Finset.univ :=
  Finset.eq_univ_iff_forall.mpr fun i => Finset.mem_biUnion.mpr
    ⟨(⟨(i 0).val, (i 0).isLt⟩, ⟨(i 1).val, (i 1).isLt⟩), Finset.mem_univ _, (mem_src _ i).mpr ⟨rfl, rfl⟩⟩
theorem dst_cover : Finset.univ.biUnion (fun k : Slot => (dstR k).set) = Finset.univ :=
  Finset.eq_univ_iff_forall.mpr fun i => Finset.mem_biUnion.mpr
    ⟨(⟨(i 0).val, (i 0).isLt⟩, ⟨(i 1).val, (i 1).isLt⟩, ⟨(i 2).val, (i 2).isLt⟩), Finset.mem_univ _, (mem_dst _ i).mpr ⟨rfl, rfl, rfl⟩⟩

/-! ## The buffers cut and joined -/

variable (ins : Dev nD → Ins F) (c : Dev nD)

theorem snd_cut (f : Buf (Elt F) ((c : Thread nD τ).loc cc0_scratch0)) :
    (((c : Thread nD τ).loc cc0_scratch0) ↦{fullShare} f : sProp 𝕄) ⊢ bigSep Finset.univ (bufAt ins c 0 0 0) := by
  rw [Ring.pointsTo_blocks (fun s : Src => (srcR s).set) src_disjoint src_cover]
  have h (s : Src) : (((c : Thread nD τ).loc cc0_scratch0) ↦[(srcR s).set]{fullShare} f : sProp 𝕄) ⊢ bufAt ins c 0 0 0 s := by
    unfold bufAt
    rw [if_neg (Nat.not_lt_zero _)]
    iintro H; iexists f
    unfold srcPts; rw [src_set]; iexact H
  exact bigSep_mono fun s _ => h s

theorem rcv_cut (f : Buf (Elt F) ((c : Thread nD τ).loc cc0_scratch1)) :
    (((c : Thread nD τ).loc cc0_scratch1) ↦{fullShare} f : sProp 𝕄) ⊢ bigSep Finset.univ fun k : Slot => iprop(∃ f, dstPts (F := F) c k f) := by
  rw [Ring.pointsTo_blocks (fun k : Slot => (dstR k).set) dst_disjoint dst_cover]
  have h (k : Slot) : (((c : Thread nD τ).loc cc0_scratch1) ↦[(dstR k).set]{fullShare} f : sProp 𝕄) ⊢ iprop(∃ f, dstPts (F := F) c k f) := by
    iintro H; iexists f
    unfold dstPts; rw [dst_set]; iexact H
  exact bigSep_mono fun k _ => h k

/-- A view's elements at the contents that it is known to read. -/
theorem owns_some {s : Shape} {e : EltTy} (v : Memref sig .tc .vmem s e) (q : PosShare TreeShare) (X : s.Idx → Elt F e) :
    (owns (c : Thread nD τ) v q X : sProp 𝕄) ⊢ iprop(∃ f, v.view.loc (c : Thread nD τ) ↦[v.view.set]{q} f) := by
  unfold owns
  iintro ⟨%f, -, H⟩
  iexists f; iexact H

/-- After the last wait every source buffer is whole again, -/
theorem src_back (s : Src) : bufAt ins c 8 24 24 s ⊢ (iprop(∃ f, srcPts (F := F) c s f) : sProp 𝕄) := by
  have e : bufAt ins c 8 24 24 s = bigSep Finset.univ fun j : Fin 3 => srcShr ins c (s.1, s.2, j) := by
    unfold bufAt
    rw [if_pos (by revert s; decide)]
    exact bigSep_congr fun j _ => by unfold shAt; rw [if_pos (.inr (drainOrd_lt _))]
  rw [e]
  unfold srcPts
  iintro H
  ihave H2 := (shares (ins := ins) (c := c) s).2 $$ H
  iapply (owns_some c (srcM s) fullShare (blk ins c s)); iexact H2

/-- and so is the send buffer; -/
theorem snd_join (f₀ : Buf (Elt F) ((c : Thread nD τ).loc cc0_scratch0)) :
    bigSep Finset.univ (bufAt ins c 8 24 24) ⊢ (iprop(∃ f : Buf (Elt F) ((c : Thread nD τ).loc cc0_scratch0), ((c : Thread nD τ).loc cc0_scratch0) ↦{fullShare} f) : sProp 𝕄) := by
  have h (s : Src) : (iprop(∃ f, srcPts (F := F) c s f) : sProp 𝕄) = iprop(∃ f : Buf (Elt F) ((c : Thread nD τ).loc cc0_scratch0), ((c : Thread nD τ).loc cc0_scratch0) ↦[(srcR s).set]{fullShare} f) := by
    unfold srcPts; rw [src_set]
  have h2 := Ring.pointsTo_blocks_join_exists (Ix := Unit) (Name := ℕ) (U := UU) (Lvl := ℕ) (Val := Elt F) (q := fullShare) (fun s : Src => (srcR s).set) src_disjoint src_cover f₀
  rw [← bigSep_congr fun s _ => h s] at h2
  exact BIBase.Entails.trans (show (_ : sProp 𝕄) ⊢ _ from bigSep_mono fun s _ => src_back ins c s) h2

/-- the receive buffer is the slots that the incoming transfers filled. -/
theorem rcv_join (f₀ : Buf (Elt F) ((c : Thread nD τ).loc cc0_scratch1)) :
    (bigSep Finset.univ fun k : Slot => dstFull ins c k) ⊢ (iprop(∃ f : Buf (Elt F) ((c : Thread nD τ).loc cc0_scratch1), ((c : Thread nD τ).loc cc0_scratch1) ↦{fullShare} f) : sProp 𝕄) := by
  have h (k : Slot) : (iprop(∃ f, dstPts (F := F) c k f) : sProp 𝕄) = iprop(∃ f : Buf (Elt F) ((c : Thread nD τ).loc cc0_scratch1), ((c : Thread nD τ).loc cc0_scratch1) ↦[(dstR k).set]{fullShare} f) := by
    unfold dstPts; rw [dst_set]
  have h2 := Ring.pointsTo_blocks_join_exists (Ix := Unit) (Name := ℕ) (U := UU) (Lvl := ℕ) (Val := Elt F) (q := fullShare) (fun k : Slot => (dstR k).set) dst_disjoint dst_cover f₀
  rw [← bigSep_congr fun k _ => h k] at h2
  exact BIBase.Entails.trans (show (_ : sProp 𝕄) ⊢ _ from bigSep_mono fun k _ => owns_some c (dstM k) fullShare (inb ins c k)) h2

end Cert.Ep

end
-- ==== Proof.Run.lean ====
/-
# Run: every device's kernel, run to its end

From any memory with every semaphore at zero, every execution ends; then each device's input arrays hold what they held,
its result array holds what the chains make up, and every semaphore is at zero again.
-/
module

public import proofs.«01_k».proof.Proof.Body
public import proofs.«01_k».proof.Proof.Ghost
public import proofs.«01_k».proof.Proof.Buffers
public import Idealize.ShloMosaic.Lib.Pipeline.CollectiveSegs

@[expose] public section

set_option maxRecDepth 16384

noncomputable section

namespace Cert.Ep

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def mem₀ : MemSt nD τ sig (Elt F) := ⟨m, fun _ => 0, ρ⟩

/-! ## What is staged -/

def xS (c : Dev nD) : Vec F S256x128 .bf16 := (win0_0.blk (0 : Fin 1)).view.read (Elt F) (m ((c : Thread nD τ).loc main_arg0))
def wS (c : Dev nD) : Vec F S128x32 .bf16 := (win0_1.blk (0 : Fin 1)).view.read (Elt F) (m ((c : Thread nD τ).loc main_arg1))
def iS (c : Dev nD) : Vec F S256x2 .i32 := (win0_2.blk (0 : Fin 1)).view.read (Elt F) (m ((c : Thread nD τ).loc main_arg2))
def eS (c : Dev nD) : Vec F S2x128x256 .bf16 := (win0_3.blk (0 : Fin 1)).view.read (Elt F) (m ((c : Thread nD τ).loc main_arg3))

/-- What each device reads of its inputs. -/
def insM (c : Dev nD) : Ins F := insOf (xS m c) (wS m c) (iS m c) (eS m c)

/-- What a device holds when its body starts, but for the scratch buffers; -/
def start (c : Dev nD) : sProp 𝕄 :=
  iprop(G' (insM m) c ∗ (cred (tallyAt (barCell c) () 6) ∗ bigSep Finset.univ fun k : Slot => cred (tallyAt (recvCell c k) () N)) ∗ levAts L lv)
/-- the two scratch buffers, at any contents; -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ (c : Dev nD) : sProp 𝕄 := iprop(start m c ∗ scratch c)
/-- and what it gives back: the scratch buffers and its semaphores at zero. -/
def Φ₁ (c : Dev nD) : sProp 𝕄 :=
  iprop(scratch c ∗ semVal (barCell c) 0 ∗ (bigSep Finset.univ fun k : Slot => semVal (sendCell c k) 0) ∗ bigSep Finset.univ fun k : Slot => semVal (recvCell c k) 0)

def dats (_ : Fin 1) (c : Dev nD) : Dat τ (Elt F) Unit ℕ UU ℕ cfg0 c where
  A w := (mem₀ m ρ).mem ((cfg0.win w).arr.view.loc (c : Thread nD τ))
  after w _ := match w with
    | ⟨0, _⟩ => xS m c
    | ⟨1, _⟩ => wS m c
    | ⟨2, _⟩ => iS m c
    | ⟨3, _⟩ => eS m c
    | ⟨4, _⟩ => outAll (insM m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's two ends -/

/-- What the body starts from. -/
theorem pre_intro (c : Dev nD) (W : Waits sig Unit) :
    iprop(start m c ∗ scratch c ∗ owes (c : Thread nD τ) (O₀ c) W) ⊢ (iprop(∃ K, Pre (insM m) K c 0) : sProp 𝕄) := by
  unfold start scratch G' opened linear payToks
  iintro ⟨⟨⟨%K, ⟨HI, HR⟩, ⟨HaB, HaS, HaR⟩, HtB, HtS, HtR⟩, ⟨HcB, HcR⟩, Hlev⟩, ⟨⟨%f0, H0⟩, ⟨%f1, H1⟩⟩, HO⟩
  iexists K
  unfold Pre records
  isplitl [HI HR Hlev]
  · isplitl [HI]; · iexact HI
    isplitl [HR]; · iexact HR
    iexact Hlev
  isplitl [HO]; · iexists W; iexact HO
  isplitl [HcB HaB]
  · isplitl [HcB]; · iexact HcB
    iexact HaB
  isplitl [HtB]
  · have h : (bigSep Finset.univ fun m : Fin 6 => dutyTok ER (barCell (par m c)) 0 m : sProp 𝕄) = bigSep Finset.univ (barToks c 0) :=
      bigSep_congr fun m _ => by unfold barToks; rw [if_pos (Nat.zero_le _)]
    iapply (Entails.of_eq h); iexact HtB
  isplitl [H1]
  · have h : (bigSep Finset.univ fun k : Slot => iprop(∃ f, dstPts (F := F) c k f) : sProp 𝕄) = bigSep Finset.univ (slotsFrom c 0) :=
      bigSep_congr fun k _ => by unfold slotsFrom; rw [if_pos (Nat.zero_le _)]
    iapply (Entails.of_eq h); iapply (rcv_cut c f1); iexact H1
  isplitl [HtS HtR HaS]
  · unfold sendToks
    rw [bigSep_sep', bigSep_sep']
    isplitl [HtS]; · iexact HtS
    isplitl [HtR]; · iexact HtR
    iexact HaS
  isplitl [H0]
  · iapply (snd_cut (insM m) c f0); iexact H0
  have h : (bigSep Finset.univ (rcvAt (insM m) c 0) : sProp 𝕄)
      = iprop((bigSep Finset.univ fun k : Slot => cred (tallyAt (recvCell c k) () N)) ∗ bigSep Finset.univ fun k : Slot => atPos ER (recvCell c k) 0 ∅ 0) := by
    rw [← bigSep_sep']
    exact bigSep_congr fun k _ => by unfold rcvAt; rw [if_neg (Nat.not_lt_zero _)]; rfl
  iapply (Entails.of_eq h.symm)
  isplitl [HcR]; · iexact HcR
  iexact HaR

/-- What the body leaves. -/
theorem post_elim (c : Dev nD) {K : Dev nD × Kd → ℕ} (ins : Dev nD → Ins F)
    (f0 : Buf (Elt F) ((c : Thread nD τ).loc cc0_scratch0)) (f1 : Buf (Elt F) ((c : Thread nD τ).loc cc0_scratch1)) :
    St ins K c 8 24 24 24 ⊢ (iprop(Φ₁ c ∗ ∃ W, owes (c : Thread nD τ) 0 W) : sProp 𝕄) := by
  have hs : (bigSep Finset.univ (sndAt c 24 24) : sProp 𝕄) = bigSep Finset.univ fun k : Slot => semVal (sendCell c k) 0 :=
    bigSep_congr fun k _ => by unfold sndAt; rw [if_pos (sendOrd_lt k), if_pos (drainOrd_lt k)]
  have hr : (bigSep Finset.univ (rcvAt ins c 24) : sProp 𝕄)
      = iprop((bigSep Finset.univ fun k : Slot => semVal (recvCell c k) 0) ∗ bigSep Finset.univ fun k : Slot => dstFull ins c k) := by
    rw [← bigSep_sep']
    exact bigSep_congr fun k _ => by unfold rcvAt; rw [if_pos (recvOrd_lt k)]
  unfold St Φ₁ scratch
  rw [hs, hr, Osend_last]
  iintro ⟨-, HzB, HO, HzS, Hbuf, HzR, Hdst⟩
  isplitr [HO]; swap; · iexact HO
  isplitl [Hbuf Hdst]
  · isplitl [Hbuf]; · iapply (snd_join ins c f0); iexact Hbuf
    iapply (rcv_join ins c f1); iexact Hdst
  isplitl [HzB]; · iexact HzB
  isplitl [HzS]; · iexact HzS
  iexact HzR

/-! ## The body's obligation -/

/-- A staging buffer at contents that are `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ
    ∗ stg c cc0_stg0_0 (xS m c) ∗ stg c cc0_stg1_0 (wS m c) ∗ stg c cc0_stg2_0 (iS m c) ∗ stg c cc0_stg3_0 (eS m c)
    ∗ stg c cc0_stg4_0 (outAll (insM m) c))

theorem stg_known (c : Dev nD) (b : Ref sig .tc) {X Y : b.ty.Contents (Elt F)} (h : X = Y) : stg c b X ⊢ pts c b Y := by
  subst h; unfold stg pts
  iintro ⟨%f, %hf, H⟩
  rw [← hf]; iexact H
theorem known_stg (c : Dev nD) (b : Ref sig .tc) (X : b.ty.Contents (Elt F)) : pts c b X ⊢ stg c b X := by
  unfold stg pts
  iintro H
  iexists _; isplitr; · (ipureintro; rfl)
  iexact H

theorem before0 (c : Dev nD) (d) : (dats m ρ 0 c).before (0 : Fin 5) t0_0 d = xS m c := by unfold Dat.before; rw [if_pos (fetch0_0 t0_0)]; rfl
theorem before1 (c : Dev nD) (d) : (dats m ρ 0 c).before (1 : Fin 5) t0_0 d = wS m c := by unfold Dat.before; rw [if_pos (fetch0_1 t0_0)]; rfl
theorem before2 (c : Dev nD) (d) : (dats m ρ 0 c).before (2 : Fin 5) t0_0 d = iS m c := by unfold Dat.before; rw [if_pos (fetch0_2 t0_0)]; rfl
theorem before3 (c : Dev nD) (d) : (dats m ρ 0 c).before (3 : Fin 5) t0_0 d = eS m c := by unfold Dat.before; rw [if_pos (fetch0_3 t0_0)]; rfl

theorem sound_body (c : Dev nD) : bodyPre m ρ c ⊢ wpc c (on (cc0_body (F := F))) fun _ => bodyPost m ρ c := by
  unfold bodyPre Φ₀ scratch Dat.owesAt Pipeline.owesWithin
  rw [show (dats m ρ 0 c).owed t0_0.castSucc = O₀ c from rfl]
  iintro ⟨⟨Hs, ⟨⟨%f0, H0⟩, ⟨%f1, H1⟩⟩⟩, ⟨%W, %hW, HO⟩, ⟨%d0, HX⟩, ⟨%d1, HW⟩, ⟨%d2, HI⟩, ⟨%d3, HE⟩, ⟨%d4, HOut⟩⟩
  ihave HP := (pre_intro m c W) $$ [Hs H0 H1 HO]
  · isplitl [Hs]; · iexact Hs
    isplitl [H0 H1]
    · unfold scratch
      isplitl [H0]
      · iexists f0; iexact H0
      iexists f1; iexact H1
    iexact HO
  icases HP with ⟨%K, HP⟩
  iapply (body_run (ins := insM m) (K := K) (c := c) (X := xS m c) (W := wS m c) (I := iS m c) (E := eS m c) rfl) $$ [HP HX HW HI HE HOut]
  · isplitl [HP]; · iexact HP
    isplitl [HX HW HI HE]
    · isplitl [HX]; · iapply (stg_known c cc0_stg0_0 (before0 m ρ c d0)); iexact HX
      isplitl [HW]; · iapply (stg_known c cc0_stg1_0 (before1 m ρ c d1)); iexact HW
      isplitl [HI]; · iapply (stg_known c cc0_stg2_0 (before2 m ρ c d2)); iexact HI
      iapply (stg_known c cc0_stg3_0 (before3 m ρ c d3)); iexact HE
    unfold Out stg
    icases HOut with ⟨%f, -, H⟩
    iexists f
    isplitr; · (ipureintro; exact fun ch h => absurd h (Nat.not_lt_zero _))
    iexact H
  iintro ⟨HSt, ⟨HX, HW, HI, HE⟩, HOut⟩
  ihave HPost := (post_elim c (insM m) f0 f1) $$ HSt
  icases HPost with ⟨HΦ, ⟨%W', HO⟩⟩
  unfold bodyPost Dat.owesAt Pipeline.owesWithin
  rw [show (dats m ρ 0 c).owed t0_0.succ = 0 from rfl]
  isplitl [HΦ]; · iexact HΦ
  isplitl [HO]
  · iexists W'
    isplitr; · (ipureintro; exact fun _ _ => Or.inl trivial)
    iexact HO
  isplitl [HX]; · iapply (known_stg c cc0_stg0_0 (xS m c)); iexact HX
  isplitl [HW]; · iapply (known_stg c cc0_stg1_0 (wS m c)); iexact HW
  isplitl [HI]; · iapply (known_stg c cc0_stg2_0 (iS m c)); iexact HI
  isplitl [HE]; · iapply (known_stg c cc0_stg3_0 (eS m c)); iexact HE
  iapply (known_stg c cc0_stg4_0 (outAll (insM m) c)); iapply (out_all (ins := insM m) (c := c)); iexact HOut

/-- What the pipeline asks of the body. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insM m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, H⟩
  isplitl [Hs]; · iexact Hs
  iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨H, HzB, HzS⟩
  isplitl [HzB]; · iexact HzB
  isplitl [HzS]; · iexact HzS
  iexact H

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-! ## The run -/

/-- What each window's array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every execution ends, with the arrays at their final contents and every semaphore at zero. -/
theorem run_main : θ_run defs (onTc (τ := τ) (main (F := F))) (mem₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (insM m)) (G' := G' (insM m)) (u₀ := u₀)
    (hu₀ := by
      unfold u₀
      iintro Hu
      ihave H := (ownU_pair _ _) $$ Hu
      icases H with ⟨HP, HX⟩
      imod (fund_cells (insM m)) $$ HX with HG
      imodintro
      isplitl [HP] <;> iassumption)
    (hglob := glob (insM m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ep

end
-- ==== Proof.Frames.lean ====
/-
# Frames: what the run leaves in the arrays

The kernel's input arrays are untouched, its result array holds what the chains make up, and the reference's
inputs are untouched.
-/
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.Pipeline.Value

@[expose] public section

set_option maxRecDepth 16384

noncomputable section

namespace Cert.Ep

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem finalA_0 (c : Dev nD) : finalA m ρ c 0 = m ((c : Thread nD τ).loc main_arg0) := (dats m ρ 0 c).arrAt_in 0 rfl _
theorem finalA_1 (c : Dev nD) : finalA m ρ c 1 = m ((c : Thread nD τ).loc main_arg1) := (dats m ρ 0 c).arrAt_in 1 rfl _
theorem finalA_2 (c : Dev nD) : finalA m ρ c 2 = m ((c : Thread nD τ).loc main_arg2) := (dats m ρ 0 c).arrAt_in 2 rfl _
theorem finalA_3 (c : Dev nD) : finalA m ρ c 3 = m ((c : Thread nD τ).loc main_arg3) := (dats m ρ 0 c).arrAt_in 3 rfl _

/-- A window's one block is its whole array, in the array's own order. -/
theorem xS_eq (c : Dev nD) : xS m c = m ((c : Thread nD τ).loc main_arg0) := funext fun i =>
  congrArg (m ((c : Thread nD τ).loc main_arg0)) (Shape.idx_ext₂ (by show 0 * 256 + 1 * (i 0).val = (i 0).val; omega) (by show 0 * 128 + 1 * (i 1).val = (i 1).val; omega))
theorem wS_eq (c : Dev nD) : wS m c = m ((c : Thread nD τ).loc main_arg1) := funext fun i =>
  congrArg (m ((c : Thread nD τ).loc main_arg1)) (Shape.idx_ext₂ (by show 0 * 128 + 1 * (i 0).val = (i 0).val; omega) (by show 0 * 32 + 1 * (i 1).val = (i 1).val; omega))
theorem iS_eq (c : Dev nD) : iS m c = m ((c : Thread nD τ).loc main_arg2) := funext fun i =>
  congrArg (m ((c : Thread nD τ).loc main_arg2)) (Shape.idx_ext₂ (by show 0 * 256 + 1 * (i 0).val = (i 0).val; omega) (by show 0 * 2 + 1 * (i 1).val = (i 1).val; omega))
theorem eS_eq (c : Dev nD) : eS m c = m ((c : Thread nD τ).loc main_arg3) := funext fun i =>
  congrArg (m ((c : Thread nD τ).loc main_arg3)) (funext fun a => Fin.ext (by
    match a with
    | ⟨0, _⟩ => show 0 * 2 + 1 * (i 0).val = (i 0).val; omega
    | ⟨1, _⟩ => show 0 * 128 + 1 * (i 1).val = (i 1).val; omega
    | ⟨2, _⟩ => show 0 * 256 + 1 * (i 2).val = (i 2).val; omega))

theorem emb4 (t : Fin cfg0.N) (i : S256x256.Idx) : ((cfg0.win 4).blk t).view.emb i = i := by
  obtain rfl := fin_N0 t
  exact Shape.idx_ext₂ (by show 0 * 256 + 1 * (i 0).val = (i 0).val; omega) (by show 0 * 256 + 1 * (i 1).val = (i 1).val; omega)

/-- The result array ends holding what the chains make up. -/
theorem finalA_4 (c : Dev nD) : finalA m ρ c 4 = outAll (insM m) c :=
  (dats m ρ 0 c).arrAt_eq_of_cover 4 (outAll (insM m) c)
    (fun t _ => funext fun i => by
      rw [View.read_apply, emb4]
      rfl)
    (fun i => ⟨t0_0, flush0_4 _, by
      have h := ((cfg0.win 4).blk t0_0).view.emb_mem_set i
      rwa [emb4] at h⟩)

/-- Every execution of the kernel ends with its inputs untouched and its result array at what the chains make up. -/
theorem run_out : θ_run defs (onTc (τ := τ) (main (F := F))) ⟨m, fun _ => 0, ρ⟩ (fun r =>
    (∀ c : Dev nD, r.2.mem ((c : Thread nD τ).loc main_v1) = outAll (insM m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c =>
    ⟨(h.1 c 4).trans (finalA_4 m ρ c), (h.1 c 0).trans (finalA_0 m ρ c), (h.1 c 1).trans (finalA_1 m ρ c),
      (h.1 c 2).trans (finalA_2 m ρ c), (h.1 c 3).trans (finalA_3 m ρ c)⟩, h.2⟩) (run_main m ρ)

theorem frame_kernelIdeal : Cert.quiescent_KernelIdeal := fun m ρ _ =>
  (θ_run Cert.KernelIdeal.defs _ _).mono (fun _ h => ⟨fun c => (h.1 c).2, h.2⟩) (run_out m ρ)

/-! ## The same text at the machine's floats -/

theorem body_same : @Cert.Kernel.cc0_body Bits _ _ = @Cert.KernelIdeal.cc0_body Bits _ _ := by
  unfold Cert.Kernel.cc0_body Cert.KernelIdeal.cc0_body
  rfl
theorem bodies_same : Cert.Kernel.defs₀ (F := Bits) = Cert.KernelIdeal.defs₀ (F := Bits) :=
  congrArg Defs.onTc (funext fun l => funext fun a => by
    match l, a with
    | ⟨0, _⟩, (_, _) => rfl
    | ⟨_ + 1, h⟩, _ => exact absurd h (Nat.not_lt.2 (Nat.le_add_left _ _)))
theorem defs_same : Cert.Kernel.defs (F := Bits) = Cert.KernelIdeal.defs (F := Bits) := congrArg (Pipeline.defs Cert.KernelIdeal.pcfgs) bodies_same

theorem frame_kernel : Cert.quiescent_Kernel := fun m ρ _ => by
  rw [defs_same]
  exact (θ_run Cert.KernelIdeal.defs _ _).mono (fun _ h => ⟨fun c => (h.1 c).2, h.2⟩) (run_out (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Ep

end
-- ==== Proof.Equation.lean ====
/-
# Equation: the kernel's result is the reference's

On routed inputs, every device's result array is the reference's result on the whole arrays, where the device's matrices
are its block of the reference's.
-/
module

public import proofs.«01_k».proof.Proof.Total
public import proofs.«01_k».proof.Proof.RefRead
public import proofs.«01_k».proof.Proof.Frames
public import Idealize.ShloMosaic.Lib.Layout

@[expose] public section

set_option maxRecDepth 16384

noncomputable section

namespace Cert.Ep

open Cert.KernelIdeal Cert.KernelIdeal.Gen
open Idealize.ShloMosaic Idealize.ShloMosaic.TcCoe
open Idealize.SL.Sem

section
variable (X : Vec Ideal S256x128 .bf16) (W : Vec Ideal S128x32 .bf16) (I : Vec Ideal S256x2 .i32) (E : Vec Ideal Cert.ReferenceIdeal.S32x128x256 .bf16)

/-- What device `c` reads when the inputs are `X`, `W`, `I` and block `c` of `E`. -/
def insWhole (c : Dev nD) : Ins Ideal := insOf X W I (Layout.block ⟨3, ![2, 128, 256]⟩ ⟨3, ![32, 128, 256]⟩ 0 16 c E)

theorem insWhole_i0 (c : Dev nD) (t : Fin 256) : (insWhole X W I E c).i0 (ix2 t 0) = I (ix2 t 0) :=
  congrArg I (Shape.idx_ext₂ (by show 0 + 1 * t.val = t.val; omega) rfl)
theorem insWhole_i1 (c : Dev nD) (t : Fin 256) : (insWhole X W I E c).i1 (ix2 t 0) = I (ix2 t 1) :=
  congrArg I (Shape.idx_ext₂ (by show 0 + 1 * t.val = t.val; omega) rfl)
theorem insWhole_e0 (c : Dev nD) (k : Fin 128) (j : Fin 256) : (insWhole X W I E c).e0 (ix3 0 k j) = E (ix3 (expertOf c 0) k j) :=
  congrArg E (funext fun a => Fin.ext (by
    match a with
    | ⟨0, _⟩ => show c.val * 2 + (0 + 1 * 0) = 2 * c.val + 0; omega
    | ⟨1, _⟩ => show 0 + 1 * k.val = k.val; omega
    | ⟨2, _⟩ => show 0 + 1 * j.val = j.val; omega))
theorem insWhole_e1 (c : Dev nD) (k : Fin 128) (j : Fin 256) : (insWhole X W I E c).e1 (ix3 0 k j) = E (ix3 (expertOf c 1) k j) :=
  congrArg E (funext fun a => Fin.ext (by
    match a with
    | ⟨0, _⟩ => show c.val * 2 + (1 + 1 * 0) = 2 * c.val + 1; omega
    | ⟨1, _⟩ => show 0 + 1 * k.val = k.val; omega
    | ⟨2, _⟩ => show 0 + 1 * j.val = j.val; omega))

/-- One entry of a chain's rows. -/
theorem res_eq (h : Routed X W I) (c : Dev nD) (ch : Fin 4) (r : Fin 64) (j : Fin 256) :
    res (insWhole X W I E) c ch (ix2 r j) = Ref.out X W I E (ix2 (tok ch r) j) := by
  obtain ⟨a, ha⟩ := h.expert (tok ch r) 0
  obtain ⟨b, hb⟩ := h.expert (tok ch r) 1
  have hab : a ≠ b := fun e => h.differ (tok ch r) (by rw [ha, hb, e])
  have hreal : ∀ e : Fin 32, ∃ s : ℝ, ∑ k, X (ix2 (tok ch r) k) * W (ix2 k e) = (s : EReal) := fun e => sum_real _ _ fun k => by
    obtain ⟨x, hx⟩ := h.token (tok ch r) k
    obtain ⟨w, hw⟩ := h.router k e
    exact ⟨x * w, by rw [hx, hw, EReal.coe_mul]⟩
  choose σ hσ using hreal
  rw [Ref.out_apply X W I E h.expert (tok ch r) j a b ha hb σ hσ, res_apply]
  have hd : ∀ d : Dev nD, acc0 (insWhole X W I E) d ch (ix2 r j)
      = (weight σ a b (expertOf d 0) : EReal) * (∑ k, X (ix2 (tok ch r) k) * E (ix3 (expertOf d 0) k j))
        + (weight σ a b (expertOf d 1) : EReal) * (∑ k, X (ix2 (tok ch r) k) * E (ix3 (expertOf d 1) k j)) := fun d => by
    rw [acc0_apply (insWhole X W I E) d ch r j σ a b hσ ((insWhole_i0 X W I E d _).trans ha) ((insWhole_i1 X W I E d _).trans hb)]
    simp only [insWhole_e0, insWhole_e1]
    rfl
  rw [Finset.sum_congr rfl fun d _ => hd d]
  exact sum_weights σ a b hab fun n => ∑ k, X (ix2 (tok ch r) k) * E (ix3 n k j)

/-- Row `r` of chain `ch` in the result array. -/
theorem outAll_tok (ins : Dev nD → Ins Ideal) (c : Dev nD) (ch : Fin 4) (r : Fin 64) (j : Fin 256) : outAll ins c (ix2 (tok ch r) j) = res ins c ch (ix2 r j) :=
  congrArg₂ (res ins c) (Fin.ext (by show (64 * ch.val + r.val) / 64 = ch.val; omega))
    (Shape.idx_ext₂ (by show (64 * ch.val + r.val) % 64 = r.val; omega) rfl)

/-- Every row of the result array is in one chain. -/
theorem tok_surj (t : Fin 256) : ∃ ch r, t = tok ch r :=
  ⟨⟨t.val / 64, by omega⟩, ⟨t.val % 64, by omega⟩, Fin.ext (by show t.val = 64 * (t.val / 64) + t.val % 64; omega)⟩

/-- Every device's result array. -/
theorem outAll_eq (h : Routed X W I) (c : Dev nD) : outAll (insWhole X W I E) c = Ref.out X W I E := by
  funext i
  obtain ⟨t, j, rfl⟩ : ∃ (t j : Fin 256), i = ix2 t j := ⟨i 0, i 1, eq_ix2 i⟩
  obtain ⟨ch, r, rfl⟩ := tok_surj t
  rw [outAll_tok, res_eq X W I E h]

end

/-! ## The claims under the precondition -/

theorem frame_kernelIdeal_routed : Cert.quiescent_KernelIdeal_pre_routed_KernelIdeal (hPre_routed_KernelIdeal := pre_kernel_facts) :=
  fun m ρ _ => frame_kernelIdeal m ρ trivial

theorem frame_referenceIdeal_routed : Cert.quiescent_ReferenceIdeal_pre_routed_ReferenceIdeal (hPre_routed_ReferenceIdeal := pre_reference_facts) :=
  fun m ρ _ => frame_referenceIdeal m ρ trivial

/-- The kernel and the reference end with the same result. -/
theorem algebraic_routed : Cert.algebraic_KernelIdeal_ReferenceIdeal_pre_routed_KernelIdeal (hPre_routed_KernelIdeal := pre_kernel_facts) := fun m g m' g' hpre harg => by
  refine ⟨_, (θ_run Cert.KernelIdeal.defs _ _).mono (fun r h c => ⟨(h.1 c).1.trans ?_, (h.1 c).2⟩) (run_out m g),
    (θ_run Cert.ReferenceIdeal.defs _ _).mono (fun r h => ⟨(h 0).1, (h 0).2⟩) (Cert.ReferenceIdeal.Value.run m' g')⟩
  have hins : insM m = insWhole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) := funext fun d => by
    obtain ⟨h0, h1, h2, h3⟩ := harg d
    unfold insM insWhole
    rw [xS_eq, wS_eq, iS_eq, eS_eq]
    erw [h0, h1, h2, h3]
  rw [hins, Ref.res_eq]
  refine outAll_eq _ _ _ _ ?_ c
  obtain ⟨h0, h1, h2, _⟩ := harg c
  rw [← h0, ← h1, ← h2]
  exact routed_of_pre _ _ _ _ (hpre c)

end Cert.Ep

end
-- ==== Proof.lean ====
/-
# The claims, assembled
-/
module

public import proofs.«01_k».proof.Defs
public import proofs.«01_k».proof.Proof.Equation
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, Cert.Ep.pre_kernel_facts, Cert.Ep.pre_reference_facts,
    Cert.Ep.frame_kernel, Cert.Ep.frame_kernelIdeal, Cert.Ep.frame_kernelIdeal_routed, Cert.Ep.frame_referenceIdeal,
    Cert.Ep.frame_referenceIdeal_routed, trivial, Cert.Ep.algebraic_routed⟩

end Cert.Proof

end
